-- ==== Defs.lean ====
def Pre_Kernel (m : (ℓ : Loc Cert.Kernel.nD Cert.Kernel.τ Cert.Kernel.sig) → Buf (Elt Bits) ℓ) : Prop :=
  True

def Pre_Quant (m : (ℓ : Loc Cert.Quant.nD Cert.Quant.τ Cert.Quant.sig) → Buf (Elt Bits) ℓ) : Prop :=
  True

def Pre_QuantReference (m : (ℓ : Loc Cert.QuantReference.nD Cert.QuantReference.τ Cert.QuantReference.sig) → Buf (Elt Bits) ℓ) : Prop :=
  True

def Pre_Gmm (m : (ℓ : Loc Cert.Gmm.nD Cert.Gmm.τ Cert.Gmm.sig) → Buf (Elt Bits) ℓ) : Prop :=
  True

def Pre_GmmIdeal (m : (ℓ : Loc Cert.GmmIdeal.nD Cert.GmmIdeal.τ Cert.GmmIdeal.sig) → Buf (Elt Ideal) ℓ) : Prop :=
  True

def Pre_GmmReferenceIdeal (m : (ℓ : Loc Cert.GmmReferenceIdeal.nD Cert.GmmReferenceIdeal.τ Cert.GmmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0))
      ∧ r.2.sem = fun _ => 0)

def quiescent_Gmm [hGmm : Cert.Gmm.Facts] : Prop :=
  ∀ (m : (ℓ : Loc Cert.Gmm.nD Cert.Gmm.τ Cert.Gmm.sig) → Buf (Elt Bits) ℓ) (g : Dev Cert.Gmm.nD → PrngReg), Pre_Gmm m →
    θ_run (Cert.Gmm.defs (F := Bits)) (onTc (τ := Cert.Gmm.τ) (Cert.Gmm.main (F := Bits))) ⟨m, fun _ => 0, g⟩ (fun r => (∀ c : Dev Cert.Gmm.nD,
      r.2.mem ((c.tc : Thread Cert.Gmm.nD Cert.Gmm.τ).loc Cert.Gmm.main_arg0) = m ((c.tc : Thread Cert.Gmm.nD Cert.Gmm.τ).loc Cert.Gmm.main_arg0)
      ∧ r.2.mem ((c.tc : Thread Cert.Gmm.nD Cert.Gmm.τ).loc Cert.Gmm.main_arg1) = m ((c.tc : Thread Cert.Gmm.nD Cert.Gmm.τ).loc Cert.Gmm.main_arg1)
      ∧ r.2.mem ((c.tc : Thread Cert.Gmm.nD Cert.Gmm.τ).loc Cert.Gmm.main_arg2) = m ((c.tc : Thread Cert.Gmm.nD Cert.Gmm.τ).loc Cert.Gmm.main_arg2)
      ∧ r.2.mem ((c.tc : Thread Cert.Gmm.nD Cert.Gmm.τ).loc Cert.Gmm.main_arg3) = m ((c.tc : Thread Cert.Gmm.nD Cert.Gmm.τ).loc Cert.Gmm.main_arg3)
      ∧ r.2.mem ((c.tc : Thread Cert.Gmm.nD Cert.Gmm.τ).loc Cert.Gmm.main_arg4) = m ((c.tc : Thread Cert.Gmm.nD Cert.Gmm.τ).loc Cert.Gmm.main_arg4))
      ∧ r.2.sem = fun _ => 0)

def quiescent_GmmIdeal [hGmmIdeal : Cert.GmmIdeal.Facts] : Prop :=
  ∀ (m : (ℓ : Loc Cert.GmmIdeal.nD Cert.GmmIdeal.τ Cert.GmmIdeal.sig) → Buf (Elt Ideal) ℓ) (g : Dev Cert.GmmIdeal.nD → PrngReg), Pre_GmmIdeal m →
    θ_run (Cert.GmmIdeal.defs (F := Ideal)) (onTc (τ := Cert.GmmIdeal.τ) (Cert.GmmIdeal.main (F := Ideal))) ⟨m, fun _ => 0, g⟩ (fun r => (∀ c : Dev Cert.GmmIdeal.nD,
      r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
      ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
      ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
      ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
      ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4))
      ∧ r.2.sem = fun _ => 0)

def quiescent_GmmReferenceIdeal [hGmmReferenceIdeal : Cert.GmmReferenceIdeal.Facts] : Prop :=
  ∀ (m : (ℓ : Loc Cert.GmmReferenceIdeal.nD Cert.GmmReferenceIdeal.τ Cert.GmmReferenceIdeal.sig) → Buf (Elt Ideal) ℓ) (g : Dev Cert.GmmReferenceIdeal.nD → PrngReg), Pre_GmmReferenceIdeal m →
    θ_run (Cert.GmmReferenceIdeal.defs (F := Ideal)) (onTc (τ := Cert.GmmReferenceIdeal.τ) (Cert.GmmReferenceIdeal.main (F := Ideal))) ⟨m, fun _ => 0, g⟩ (fun r => (∀ c : Dev Cert.GmmReferenceIdeal.nD,
      r.2.mem ((c.tc : Thread Cert.GmmReferenceIdeal.nD Cert.GmmReferenceIdeal.τ).loc Cert.GmmReferenceIdeal.main_arg0) = m ((c.tc : Thread Cert.GmmReferenceIdeal.nD Cert.GmmReferenceIdeal.τ).loc Cert.GmmReferenceIdeal.main_arg0)
      ∧ r.2.mem ((c.tc : Thread Cert.GmmReferenceIdeal.nD Cert.GmmReferenceIdeal.τ).loc Cert.GmmReferenceIdeal.main_arg1) = m ((c.tc : Thread Cert.GmmReferenceIdeal.nD Cert.GmmReferenceIdeal.τ).loc Cert.GmmReferenceIdeal.main_arg1)
      ∧ r.2.mem ((c.tc : Thread Cert.GmmReferenceIdeal.nD Cert.GmmReferenceIdeal.τ).loc Cert.GmmReferenceIdeal.main_arg2) = m ((c.tc : Thread Cert.GmmReferenceIdeal.nD Cert.GmmReferenceIdeal.τ).loc Cert.GmmReferenceIdeal.main_arg2)
      ∧ r.2.mem ((c.tc : Thread Cert.GmmReferenceIdeal.nD Cert.GmmReferenceIdeal.τ).loc Cert.GmmReferenceIdeal.main_arg3) = m ((c.tc : Thread Cert.GmmReferenceIdeal.nD Cert.GmmReferenceIdeal.τ).loc Cert.GmmReferenceIdeal.main_arg3)
      ∧ r.2.mem ((c.tc : Thread Cert.GmmReferenceIdeal.nD Cert.GmmReferenceIdeal.τ).loc Cert.GmmReferenceIdeal.main_arg4) = m ((c.tc : Thread Cert.GmmReferenceIdeal.nD Cert.GmmReferenceIdeal.τ).loc Cert.GmmReferenceIdeal.main_arg4))
      ∧ r.2.sem = fun _ => 0)

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v1_0)) (v1 : (c : Dev Cert.Quant.nD) → Buf (Elt Bits) ((c.tc : Thread Cert.Quant.nD Cert.Quant.τ).loc Cert.Quant.main_v1_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v1_0) = v0 c
          ∧ r.2.mem ((c.tc : Thread Cert.Quant.nD Cert.Quant.τ).loc Cert.Quant.main_v1_1) = v1 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v1_0) = v0 c
          ∧ r.2.mem ((c.tc : Thread Cert.QuantReference.nD Cert.QuantReference.τ).loc Cert.QuantReference.main_v1_1) = v1 c
          ∧ r.2.mem ((c.tc : Thread Cert.QuantReference.nD Cert.QuantReference.τ).loc Cert.QuantReference.main_arg0) = m' ((c.tc : Thread Cert.QuantReference.nD Cert.QuantReference.τ).loc Cert.QuantReference.main_arg0))

def preserves_Gmm_GmmIdeal : Prop :=
  True

def algebraic_GmmIdeal_GmmReferenceIdeal [hGmmIdeal : Cert.GmmIdeal.Facts] [hGmmReferenceIdeal : Cert.GmmReferenceIdeal.Facts] : Prop :=
  ∀ (m : (ℓ : Loc Cert.GmmIdeal.nD Cert.GmmIdeal.τ Cert.GmmIdeal.sig) → Buf (Elt Ideal) ℓ) (g : Dev Cert.GmmIdeal.nD → PrngReg)
    (m' : (ℓ : Loc Cert.GmmReferenceIdeal.nD Cert.GmmReferenceIdeal.τ Cert.GmmReferenceIdeal.sig) → Buf (Elt Ideal) ℓ) (g' : Dev Cert.GmmReferenceIdeal.nD → PrngReg), Pre_GmmIdeal m →
    (∀ c : Dev Cert.GmmIdeal.nD,
      m' ((c.tc : Thread Cert.GmmReferenceIdeal.nD Cert.GmmReferenceIdeal.τ).loc Cert.GmmReferenceIdeal.main_arg0) = m ((c.tc : Thread Cert.GmmIdeal.nD Cert.GmmIdeal.τ).loc Cert.GmmIdeal.main_arg0)
      ∧ m' ((c.tc : Thread Cert.GmmReferenceIdeal.nD Cert.GmmReferenceIdeal.τ).loc Cert.GmmReferenceIdeal.main_arg1) = m ((c.tc : Thread Cert.GmmIdeal.nD Cert.GmmIdeal.τ).loc Cert.GmmIdeal.main_arg1)
      ∧ m' ((c.tc : Thread Cert.GmmReferenceIdeal.nD Cert.GmmReferenceIdeal.τ).loc Cert.GmmReferenceIdeal.main_arg2) = m ((c.tc : Thread Cert.GmmIdeal.nD Cert.GmmIdeal.τ).loc Cert.GmmIdeal.main_arg2)
      ∧ m' ((c.tc : Thread Cert.GmmReferenceIdeal.nD Cert.GmmReferenceIdeal.τ).loc Cert.GmmReferenceIdeal.main_arg3) = m ((c.tc : Thread Cert.GmmIdeal.nD Cert.GmmIdeal.τ).loc Cert.GmmIdeal.main_arg3)
      ∧ m' ((c.tc : Thread Cert.GmmReferenceIdeal.nD Cert.GmmReferenceIdeal.τ).loc Cert.GmmReferenceIdeal.main_arg4) = m ((c.tc : Thread Cert.GmmIdeal.nD Cert.GmmIdeal.τ).loc Cert.GmmIdeal.main_arg4)) →
    ∃ (v0 : (c : Dev Cert.GmmIdeal.nD) → Buf (Elt Ideal) ((c.tc : Thread Cert.GmmIdeal.nD Cert.GmmIdeal.τ).loc Cert.GmmIdeal.main_v2)),
      θ_run (Cert.GmmIdeal.defs (F := Ideal)) (onTc (τ := Cert.GmmIdeal.τ) (Cert.GmmIdeal.main (F := Ideal))) ⟨m, fun _ => 0, g⟩ (fun r => ∀ c : Dev Cert.GmmIdeal.nD,
          r.2.mem ((c.tc : Thread Cert.GmmIdeal.nD Cert.GmmIdeal.τ).loc Cert.GmmIdeal.main_v2) = v0 c
          ∧ r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
          ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
          ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
          ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3)
          ∧ r.2.mem ((c.tc : Thread Cert.GmmIdeal.nD Cert.GmmIdeal.τ).loc Cert.GmmIdeal.main_arg4) = m ((c.tc : Thread Cert.GmmIdeal.nD Cert.GmmIdeal.τ).loc Cert.GmmIdeal.main_arg4))
      ∧ θ_run (Cert.GmmReferenceIdeal.defs (F := Ideal)) (onTc (τ := Cert.GmmReferenceIdeal.τ) (Cert.GmmReferenceIdeal.main (F := Ideal))) ⟨m', fun _ => 0, g'⟩ (fun r => ∀ c : Dev Cert.GmmReferenceIdeal.nD,
          r.2.mem ((c.tc : Thread Cert.GmmReferenceIdeal.nD Cert.GmmReferenceIdeal.τ).loc Cert.GmmReferenceIdeal.main_v9) = v0 c
          ∧ r.2.mem ((c.tc : Thread Cert.GmmReferenceIdeal.nD Cert.GmmReferenceIdeal.τ).loc Cert.GmmReferenceIdeal.main_arg0) = m' ((c.tc : Thread Cert.GmmReferenceIdeal.nD Cert.GmmReferenceIdeal.τ).loc Cert.GmmReferenceIdeal.main_arg0)
          ∧ r.2.mem ((c.tc : Thread Cert.GmmReferenceIdeal.nD Cert.GmmReferenceIdeal.τ).loc Cert.GmmReferenceIdeal.main_arg1) = m' ((c.tc : Thread Cert.GmmReferenceIdeal.nD Cert.GmmReferenceIdeal.τ).loc Cert.GmmReferenceIdeal.main_arg1)
          ∧ r.2.mem ((c.tc : Thread Cert.GmmReferenceIdeal.nD Cert.GmmReferenceIdeal.τ).loc Cert.GmmReferenceIdeal.main_arg2) = m' ((c.tc : Thread Cert.GmmReferenceIdeal.nD Cert.GmmReferenceIdeal.τ).loc Cert.GmmReferenceIdeal.main_arg2)
          ∧ r.2.mem ((c.tc : Thread Cert.GmmReferenceIdeal.nD Cert.GmmReferenceIdeal.τ).loc Cert.GmmReferenceIdeal.main_arg3) = m' ((c.tc : Thread Cert.GmmReferenceIdeal.nD Cert.GmmReferenceIdeal.τ).loc Cert.GmmReferenceIdeal.main_arg3)
          ∧ r.2.mem ((c.tc : Thread Cert.GmmReferenceIdeal.nD Cert.GmmReferenceIdeal.τ).loc Cert.GmmReferenceIdeal.main_arg4) = m' ((c.tc : Thread Cert.GmmReferenceIdeal.nD Cert.GmmReferenceIdeal.τ).loc Cert.GmmReferenceIdeal.main_arg4))

def Claim : Prop :=
  ∃ (hKernel : Cert.Kernel.Facts) (hQuant : Cert.Quant.Facts) (hQuantReference : Cert.QuantReference.Facts) (hGmm : Cert.Gmm.Facts) (hGmmIdeal : Cert.GmmIdeal.Facts) (hGmmReferenceIdeal : Cert.GmmReferenceIdeal.Facts),
    quiescent_Kernel (hKernel := hKernel)
    ∧ quiescent_Quant (hQuant := hQuant)
    ∧ quiescent_QuantReference (hQuantReference := hQuantReference)
    ∧ quiescent_Gmm (hGmm := hGmm)
    ∧ quiescent_GmmIdeal (hGmmIdeal := hGmmIdeal)
    ∧ quiescent_GmmReferenceIdeal (hGmmReferenceIdeal := hGmmReferenceIdeal)
    ∧ bitexact_Quant_QuantReference (hQuant := hQuant) (hQuantReference := hQuantReference)
    ∧ preserves_Gmm_GmmIdeal
    ∧ algebraic_GmmIdeal_GmmReferenceIdeal (hGmmIdeal := hGmmIdeal) (hGmmReferenceIdeal := hGmmReferenceIdeal)
-- ==== Kernel.lean ====
abbrev S1x3072x8192 : Shape := ⟨3, ![1, 3072, 8192]⟩
abbrev S3584x8192 : Shape := ⟨2, ![3584, 8192]⟩
abbrev S28x64 : Shape := ⟨2, ![28, 64]⟩
abbrev S3584 : Shape := ⟨1, ![3584]⟩
abbrev S3072x8192 : Shape := ⟨2, ![3072, 8192]⟩
abbrev S3072x64 : Shape := ⟨2, ![3072, 64]⟩
abbrev S256x8192 : Shape := ⟨2, ![256, 8192]⟩
abbrev S256x64 : Shape := ⟨2, ![256, 64]⟩
abbrev S256x128 : Shape := ⟨2, ![256, 128]⟩
abbrev S256 : Shape := ⟨1, ![256]⟩
abbrev S256x1 : Shape := ⟨2, ![256, 1]⟩
abbrev S64x3072 : Shape := ⟨2, ![64, 3072]⟩
abbrev S1x3584 : Shape := ⟨2, ![1, 3584]⟩
abbrev S3072x3584 : Shape := ⟨2, ![3072, 3584]⟩
abbrev S512x8192 : Shape := ⟨2, ![512, 8192]⟩
abbrev S64x512 : Shape := ⟨2, ![64, 512]⟩
abbrev S1x512 : Shape := ⟨2, ![1, 512]⟩
abbrev S512x512 : Shape := ⟨2, ![512, 512]⟩
abbrev S512x128 : Shape := ⟨2, ![512, 128]⟩
abbrev S1x1 : Shape := ⟨2, ![1, 1]⟩
abbrev S128x512 : Shape := ⟨2, ![128, 512]⟩
abbrev S1x3072x3584 : Shape := ⟨3, ![1, 3072, 3584]⟩
abbrev S1x3072x64 : Shape := ⟨3, ![1, 3072, 64]⟩

abbrev nBuf : Space → Nat
  | .hbm => 13
  | .vmem => 17
  | .smem => 1
  | _ => 0

abbrev bufTy : (tb : Table) → Fin (tcTables nBuf tb) → BufTy
  | .hbm, ⟨0, _⟩ => ⟨S1x3072x8192, .bf16⟩
  | .hbm, ⟨1, _⟩ => ⟨S3584x8192, .fp8e4m3⟩
  | .hbm, ⟨2, _⟩ => ⟨S28x64, .f32⟩
  | .hbm, ⟨3, _⟩ => ⟨S3584, .f32⟩
  | .hbm, ⟨4, _⟩ => ⟨S3072x8192, .bf16⟩
  | .hbm, ⟨5, _⟩ => ⟨S3072x8192, .fp8e4m3⟩
  | .hbm, ⟨6, _⟩ => ⟨S3072x64, .f32⟩
  | .hbm, ⟨7, _⟩ => ⟨S64x3072, .f32⟩
  | .hbm, ⟨8, _⟩ => ⟨S1x3584, .f32⟩
  | .hbm, ⟨9, _⟩ => ⟨S3072x3584, .bf16⟩
  | .hbm, ⟨10, _⟩ => ⟨S1x3072x3584, .bf16⟩
  | .hbm, ⟨11, _⟩ => ⟨S1x3072x8192, .fp8e4m3⟩
  | .hbm, ⟨12, _⟩ => ⟨S1x3072x64, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x64, .f32⟩
  | .local _ .vmem, ⟨5, _⟩ => ⟨S256x64, .f32⟩
  | .local _ .vmem, ⟨6, _⟩ => ⟨S512x8192, .fp8e4m3⟩
  | .local _ .vmem, ⟨7, _⟩ => ⟨S512x8192, .fp8e4m3⟩
  | .local _ .vmem, ⟨8, _⟩ => ⟨S512x8192, .fp8e4m3⟩
  | .local _ .vmem, ⟨9, _⟩ => ⟨S512x8192, .fp8e4m3⟩
  | .local _ .vmem, ⟨10, _⟩ => ⟨S64x512, .f32⟩
  | .local _ .vmem, ⟨11, _⟩ => ⟨S64x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .smem, ⟨0, _⟩ => ⟨S28x64, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 7], ![false, false]⟩

def k1_off1 (i : grid1.Coords) (c0_i32 : BitVec 32) : Fin 2 → Nat :=
  let arg1 : BitVec 32 := BitVec.ofNat 32 (i 1).val
  let c4_i32 : BitVec 32 := 4#32
  let v10 : BitVec 32 := Scalar.muli arg1 c4_i32
  let v11 : BitVec 32 := Scalar.addi v10 c0_i32
  let v12 : Index := Scalar.indexCast v11
  let c0_8 : Index := 0#32
  ![v12.toNat, 0]
def k1_off2 (i : grid1.Coords) (c0_i32_41 : BitVec 32) : Fin 2 → Nat :=
  let arg1 : BitVec 32 := BitVec.ofNat 32 (i 1).val
  let c4_i32_40 : BitVec 32 := 4#32
  let v78 : BitVec 32 := Scalar.muli arg1 c4_i32_40
  let v79 : BitVec 32 := Scalar.addi v78 c0_i32_41
  let v80 : Index := Scalar.indexCast v79
  let c1_42 : Index := 1#32
  ![v80.toNat, 1]
def k1_off3 (i : grid1.Coords) (c0_i32_81 : BitVec 32) : Fin 2 → Nat :=
  let arg1 : BitVec 32 := BitVec.ofNat 32 (i 1).val
  let c4_i32_80 : BitVec 32 := 4#32
  let v146 : BitVec 32 := Scalar.muli arg1 c4_i32_80
  let v147 : BitVec 32 := Scalar.addi v146 c0_i32_81
  let v148 : Index := Scalar.indexCast v147
  let c2_82 : Index := 2#32
  ![v148.toNat, 2]
def k1_off4 (i : grid1.Coords) (c0_i32_121 : BitVec 32) : Fin 2 → Nat :=
  let arg1 : BitVec 32 := BitVec.ofNat 32 (i 1).val
  let c4_i32_120 : BitVec 32 := 4#32
  let v214 : BitVec 32 := Scalar.muli arg1 c4_i32_120
  let v215 : BitVec 32 := Scalar.addi v214 c0_i32_121
  let v216 : Index := Scalar.indexCast v215
  let c3_122 : Index := 3#32
  ![v216.toNat, 3]
def k1_off5 (i : grid1.Coords) (c0_i32_160 : BitVec 32) : Fin 2 → Nat :=
  let arg1 : BitVec 32 := BitVec.ofNat 32 (i 1).val
  let c4_i32_159 : BitVec 32 := 4#32
  let v282 : BitVec 32 := Scalar.muli arg1 c4_i32_159
  let v283 : BitVec 32 := Scalar.addi v282 c0_i32_160
  let v284 : Index := Scalar.indexCast v283
  let c4_161 : Index := 4#32
  ![v284.toNat, 4]
def k1_off6 (i : grid1.Coords) (c0_i32_199 : BitVec 32) : Fin 2 → Nat :=
  let arg1 : BitVec 32 := BitVec.ofNat 32 (i 1).val
  let c4_i32_198 : BitVec 32 := 4#32
  let v350 : BitVec 32 := Scalar.muli arg1 c4_i32_198
  let v351 : BitVec 32 := Scalar.addi v350 c0_i32_199
  let v352 : Index := Scalar.indexCast v351
  let c5_200 : Index := 5#32
  ![v352.toNat, 5]
def k1_off7 (i : grid1.Coords) (c0_i32_238 : BitVec 32) : Fin 2 → Nat :=
  let arg1 : BitVec 32 := BitVec.ofNat 32 (i 1).val
  let c4_i32_237 : BitVec 32 := 4#32
  let v418 : BitVec 32 := Scalar.muli arg1 c4_i32_237
  let v419 : BitVec 32 := Scalar.addi v418 c0_i32_238
  let v420 : Index := Scalar.indexCast v419
  let c6_239 : Index := 6#32
  ![v420.toNat, 6]
def k1_off8 (i : grid1.Coords) (c0_i32_277 : BitVec 32) : Fin 2 → Nat :=
  let arg1 : BitVec 32 := BitVec.ofNat 32 (i 1).val
  let c4_i32_276 : BitVec 32 := 4#32
  let v486 : BitVec 32 := Scalar.muli arg1 c4_i32_276
  let v487 : BitVec 32 := Scalar.addi v486 c0_i32_277
  let v488 : Index := Scalar.indexCast v487
  let c7_278 : Index := 7#32
  ![v488.toNat, 7]
def k1_off9 (i : grid1.Coords) (c0_i32_316 : BitVec 32) : Fin 2 → Nat :=
  let arg1 : BitVec 32 := BitVec.ofNat 32 (i 1).val
  let c4_i32_315 : BitVec 32 := 4#32
  let v554 : BitVec 32 := Scalar.muli arg1 c4_i32_315
  let v555 : BitVec 32 := Scalar.addi v554 c0_i32_316
  let v556 : Index := Scalar.indexCast v555
  let c8_317 : Index := 8#32
  ![v556.toNat, 8]
def k1_off10 (i : grid1.Coords) (c0_i32_355 : BitVec 32) : Fin 2 → Nat :=
  let arg1 : BitVec 32 := BitVec.ofNat 32 (i 1).val
  let c4_i32_354 : BitVec 32 := 4#32
  let v622 : BitVec 32 := Scalar.muli arg1 c4_i32_354
  let v623 : BitVec 32 := Scalar.addi v622 c0_i32_355
  let v624 : Index := Scalar.indexCast v623
  let c9_356 : Index := 9#32
  ![v624.toNat, 9]
def k1_off11 (i : grid1.Coords) (c0_i32_394 : BitVec 32) : Fin 2 → Nat :=
  let arg1 : BitVec 32 := BitVec.ofNat 32 (i 1).val
  let c4_i32_393 : BitVec 32 := 4#32
  let v690 : BitVec 32 := Scalar.muli arg1 c4_i32_393
  let v691 : BitVec 32 := Scalar.addi v690 c0_i32_394
  let v692 : Index := Scalar.indexCast v691
  let c10_395 : Index := 10#32
  ![v692.toNat, 10]
def k1_off12 (i : grid1.Coords) (c0_i32_433 : BitVec 32) : Fin 2 → Nat :=
  let arg1 : BitVec 32 := BitVec.ofNat 32 (i 1).val
  let c4_i32_432 : BitVec 32 := 4#32
  let v758 : BitVec 32 := Scalar.muli arg1 c4_i32_432
  let v759 : BitVec 32 := Scalar.addi v758 c0_i32_433
  let v760 : Index := Scalar.indexCast v759
  let c11_434 : Index := 11#32
  ![v760.toNat, 11]
def k1_off13 (i : grid1.Coords) (c0_i32_472 : BitVec 32) : Fin 2 → Nat :=
  let arg1 : BitVec 32 := BitVec.ofNat 32 (i 1).val
  let c4_i32_471 : BitVec 32 := 4#32
  let v826 : BitVec 32 := Scalar.muli arg1 c4_i32_471
  let v827 : BitVec 32 := Scalar.addi v826 c0_i32_472
  let v828 : Index := Scalar.indexCast v827
  let c12_473 : Index := 12#32
  ![v828.toNat, 12]
def k1_off14 (i : grid1.Coords) (c0_i32_511 : BitVec 32) : Fin 2 → Nat :=
  let arg1 : BitVec 32 := BitVec.ofNat 32 (i 1).val
  let c4_i32_510 : BitVec 32 := 4#32
  let v894 : BitVec 32 := Scalar.muli arg1 c4_i32_510
  let v895 : BitVec 32 := Scalar.addi v894 c0_i32_511
  let v896 : Index := Scalar.indexCast v895
  let c13_512 : Index := 13#32
  ![v896.toNat, 13]
def k1_off15 (i : grid1.Coords) (c0_i32_550 : BitVec 32) : Fin 2 → Nat :=
  let arg1 : BitVec 32 := BitVec.ofNat 32 (i 1).val
  let c4_i32_549 : BitVec 32 := 4#32
  let v962 : BitVec 32 := Scalar.muli arg1 c4_i32_549
  let v963 : BitVec 32 := Scalar.addi v962 c0_i32_550
  let v964 : Index := Scalar.indexCast v963
  let c14_551 : Index := 14#32
  ![v964.toNat, 14]
def k1_off16 (i : grid1.Coords) (c0_i32_589 : BitVec 32) : Fin 2 → Nat :=
  let arg1 : BitVec 32 := BitVec.ofNat 32 (i 1).val
  let c4_i32_588 : BitVec 32 := 4#32
  let v1030 : BitVec 32 := Scalar.muli arg1 c4_i32_588
  let v1031 : BitVec 32 := Scalar.addi v1030 c0_i32_589
  let v1032 : Index := Scalar.indexCast v1031
  let c15_590 : Index := 15#32
  ![v1032.toNat, 15]
def k1_off17 (i : grid1.Coords) (c0_i32_628 : BitVec 32) : Fin 2 → Nat :=
  let arg1 : BitVec 32 := BitVec.ofNat 32 (i 1).val
  let c4_i32_627 : BitVec 32 := 4#32
  let v1098 : BitVec 32 := Scalar.muli arg1 c4_i32_627
  let v1099 : BitVec 32 := Scalar.addi v1098 c0_i32_628
  let v1100 : Index := Scalar.indexCast v1099
  let c16_629 : Index := 16#32
  ![v1100.toNat, 16]
def k1_off18 (i : grid1.Coords) (c0_i32_667 : BitVec 32) : Fin 2 → Nat :=
  let arg1 : BitVec 32 := BitVec.ofNat 32 (i 1).val
  let c4_i32_666 : BitVec 32 := 4#32
  let v1166 : BitVec 32 := Scalar.muli arg1 c4_i32_666
  let v1167 : BitVec 32 := Scalar.addi v1166 c0_i32_667
  let v1168 : Index := Scalar.indexCast v1167
  let c17_668 : Index := 17#32
  ![v1168.toNat, 17]
def k1_off19 (i : grid1.Coords) (c0_i32_706 : BitVec 32) : Fin 2 → Nat :=
  let arg1 : BitVec 32 := BitVec.ofNat 32 (i 1).val
  let c4_i32_705 : BitVec 32 := 4#32
  let v1234 : BitVec 32 := Scalar.muli arg1 c4_i32_705
  let v1235 : BitVec 32 := Scalar.addi v1234 c0_i32_706
  let v1236 : Index := Scalar.indexCast v1235
  let c18_707 : Index := 18#32
  ![v1236.toNat, 18]
def k1_off20 (i : grid1.Coords) (c0_i32_745 : BitVec 32) : Fin 2 → Nat :=
  let arg1 : BitVec 32 := BitVec.ofNat 32 (i 1).val
  let c4_i32_744 : BitVec 32 := 4#32
  let v1302 : BitVec 32 := Scalar.muli arg1 c4_i32_744
  let v1303 : BitVec 32 := Scalar.addi v1302 c0_i32_745
  let v1304 : Index := Scalar.indexCast v1303
  let c19_746 : Index := 19#32
  ![v1304.toNat, 19]
def k1_off21 (i : grid1.Coords) (c0_i32_784 : BitVec 32) : Fin 2 → Nat :=
  let arg1 : BitVec 32 := BitVec.ofNat 32 (i 1).val
  let c4_i32_783 : BitVec 32 := 4#32
  let v1370 : BitVec 32 := Scalar.muli arg1 c4_i32_783
  let v1371 : BitVec 32 := Scalar.addi v1370 c0_i32_784
  let v1372 : Index := Scalar.indexCast v1371
  let c20_785 : Index := 20#32
  ![v1372.toNat, 20]
def k1_off22 (i : grid1.Coords) (c0_i32_823 : BitVec 32) : Fin 2 → Nat :=
  let arg1 : BitVec 32 := BitVec.ofNat 32 (i 1).val
  let c4_i32_822 : BitVec 32 := 4#32
  let v1438 : BitVec 32 := Scalar.muli arg1 c4_i32_822
  let v1439 : BitVec 32 := Scalar.addi v1438 c0_i32_823
  let v1440 : Index := Scalar.indexCast v1439
  let c21_824 : Index := 21#32
  ![v1440.toNat, 21]
def k1_off23 (i : grid1.Coords) (c0_i32_862 : BitVec 32) : Fin 2 → Nat :=
  let arg1 : BitVec 32 := BitVec.ofNat 32 (i 1).val
  let c4_i32_861 : BitVec 32 := 4#32
  let v1506 : BitVec 32 := Scalar.muli arg1 c4_i32_861
  let v1507 : BitVec 32 := Scalar.addi v1506 c0_i32_862
  let v1508 : Index := Scalar.indexCast v1507
  let c22_863 : Index := 22#32
  ![v1508.toNat, 22]
def k1_off24 (i : grid1.Coords) (c0_i32_901 : BitVec 32) : Fin 2 → Nat :=
  let arg1 : BitVec 32 := BitVec.ofNat 32 (i 1).val
  let c4_i32_900 : BitVec 32 := 4#32
  let v1574 : BitVec 32 := Scalar.muli arg1 c4_i32_900
  let v1575 : BitVec 32 := Scalar.addi v1574 c0_i32_901
  let v1576 : Index := Scalar.indexCast v1575
  let c23_902 : Index := 23#32
  ![v1576.toNat, 23]
def k1_off25 (i : grid1.Coords) (c0_i32_940 : BitVec 32) : Fin 2 → Nat :=
  let arg1 : BitVec 32 := BitVec.ofNat 32 (i 1).val
  let c4_i32_939 : BitVec 32 := 4#32
  let v1642 : BitVec 32 := Scalar.muli arg1 c4_i32_939
  let v1643 : BitVec 32 := Scalar.addi v1642 c0_i32_940
  let v1644 : Index := Scalar.indexCast v1643
  let c24_941 : Index := 24#32
  ![v1644.toNat, 24]
def k1_off26 (i : grid1.Coords) (c0_i32_979 : BitVec 32) : Fin 2 → Nat :=
  let arg1 : BitVec 32 := BitVec.ofNat 32 (i 1).val
  let c4_i32_978 : BitVec 32 := 4#32
  let v1710 : BitVec 32 := Scalar.muli arg1 c4_i32_978
  let v1711 : BitVec 32 := Scalar.addi v1710 c0_i32_979
  let v1712 : Index := Scalar.indexCast v1711
  let c25_980 : Index := 25#32
  ![v1712.toNat, 25]
def k1_off27 (i : grid1.Coords) (c0_i32_1018 : BitVec 32) : Fin 2 → Nat :=
  let arg1 : BitVec 32 := BitVec.ofNat 32 (i 1).val
  let c4_i32_1017 : BitVec 32 := 4#32
  let v1778 : BitVec 32 := Scalar.muli arg1 c4_i32_1017
  let v1779 : BitVec 32 := Scalar.addi v1778 c0_i32_1018
  let v1780 : Index := Scalar.indexCast v1779
  let c26_1019 : Index := 26#32
  ![v1780.toNat, 26]
def k1_off28 (i : grid1.Coords) (c0_i32_1057 : BitVec 32) : Fin 2 → Nat :=
  let arg1 : BitVec 32 := BitVec.ofNat 32 (i 1).val
  let c4_i32_1056 : BitVec 32 := 4#32
  let v1846 : BitVec 32 := Scalar.muli arg1 c4_i32_1056
  let v1847 : BitVec 32 := Scalar.addi v1846 c0_i32_1057
  let v1848 : Index := Scalar.indexCast v1847
  let c27_1058 : Index := 27#32
  ![v1848.toNat, 27]
def k1_off29 (i : grid1.Coords) (c0_i32_1096 : BitVec 32) : Fin 2 → Nat :=
  let arg1 : BitVec 32 := BitVec.ofNat 32 (i 1).val
  let c4_i32_1095 : BitVec 32 := 4#32
  let v1914 : BitVec 32 := Scalar.muli arg1 c4_i32_1095
  let v1915 : BitVec 32 := Scalar.addi v1914 c0_i32_1096
  let v1916 : Index := Scalar.indexCast v1915
  let c28_1097 : Index := 28#32
  ![v1916.toNat, 28]
def k1_off30 (i : grid1.Coords) (c0_i32_1135 : BitVec 32) : Fin 2 → Nat :=
  let arg1 : BitVec 32 := BitVec.ofNat 32 (i 1).val
  let c4_i32_1134 : BitVec 32 := 4#32
  let v1982 : BitVec 32 := Scalar.muli arg1 c4_i32_1134
  let v1983 : BitVec 32 := Scalar.addi v1982 c0_i32_1135
  let v1984 : Index := Scalar.indexCast v1983
  let c29_1136 : Index := 29#32
  ![v1984.toNat, 29]
def k1_off31 (i : grid1.Coords) (c0_i32_1174 : BitVec 32) : Fin 2 → Nat :=
  let arg1 : BitVec 32 := BitVec.ofNat 32 (i 1).val
  let c4_i32_1173 : BitVec 32 := 4#32
  let v2050 : BitVec 32 := Scalar.muli arg1 c4_i32_1173
  let v2051 : BitVec 32 := Scalar.addi v2050 c0_i32_1174
  let v2052 : Index := Scalar.indexCast v2051
  let c30_1175 : Index := 30#32
  ![v2052.toNat, 30]
def k1_off32 (i : grid1.Coords) (c0_i32_1213 : BitVec 32) : Fin 2 → Nat :=
  let arg1 : BitVec 32 := BitVec.ofNat 32 (i 1).val
  let c4_i32_1212 : BitVec 32 := 4#32
  let v2118 : BitVec 32 := Scalar.muli arg1 c4_i32_1212
  let v2119 : BitVec 32 := Scalar.addi v2118 c0_i32_1213
  let v2120 : Index := Scalar.indexCast v2119
  let c31_1214 : Index := 31#32
  ![v2120.toNat, 31]
def k1_off33 (i : grid1.Coords) (c0_i32_1252 : BitVec 32) : Fin 2 → Nat :=
  let arg1 : BitVec 32 := BitVec.ofNat 32 (i 1).val
  let c4_i32_1251 : BitVec 32 := 4#32
  let v2186 : BitVec 32 := Scalar.muli arg1 c4_i32_1251
  let v2187 : BitVec 32 := Scalar.addi v2186 c0_i32_1252
  let v2188 : Index := Scalar.indexCast v2187
  let c32_1253 : Index := 32#32
  ![v2188.toNat, 32]
def k1_off34 (i : grid1.Coords) (c0_i32_1291 : BitVec 32) : Fin 2 → Nat :=
  let arg1 : BitVec 32 := BitVec.ofNat 32 (i 1).val
  let c4_i32_1290 : BitVec 32 := 4#32
  let v2254 : BitVec 32 := Scalar.muli arg1 c4_i32_1290
  let v2255 : BitVec 32 := Scalar.addi v2254 c0_i32_1291
  let v2256 : Index := Scalar.indexCast v2255
  let c33_1292 : Index := 33#32
  ![v2256.toNat, 33]
def k1_off35 (i : grid1.Coords) (c0_i32_1330 : BitVec 32) : Fin 2 → Nat :=
  let arg1 : BitVec 32 := BitVec.ofNat 32 (i 1).val
  let c4_i32_1329 : BitVec 32 := 4#32
  let v2322 : BitVec 32 := Scalar.muli arg1 c4_i32_1329
  let v2323 : BitVec 32 := Scalar.addi v2322 c0_i32_1330
  let v2324 : Index := Scalar.indexCast v2323
  let c34_1331 : Index := 34#32
  ![v2324.toNat, 34]
def k1_off36 (i : grid1.Coords) (c0_i32_1369 : BitVec 32) : Fin 2 → Nat :=
  let arg1 : BitVec 32 := BitVec.ofNat 32 (i 1).val
  let c4_i32_1368 : BitVec 32 := 4#32
  let v2390 : BitVec 32 := Scalar.muli arg1 c4_i32_1368
  let v2391 : BitVec 32 := Scalar.addi v2390 c0_i32_1369
  let v2392 : Index := Scalar.indexCast v2391
  let c35_1370 : Index := 35#32
  ![v2392.toNat, 35]
def k1_off37 (i : grid1.Coords) (c0_i32_1408 : BitVec 32) : Fin 2 → Nat :=
  let arg1 : BitVec 32 := BitVec.ofNat 32 (i 1).val
  let c4_i32_1407 : BitVec 32 := 4#32
  let v2458 : BitVec 32 := Scalar.muli arg1 c4_i32_1407
  let v2459 : BitVec 32 := Scalar.addi v2458 c0_i32_1408
  let v2460 : Index := Scalar.indexCast v2459
  let c36_1409 : Index := 36#32
  ![v2460.toNat, 36]
def k1_off38 (i : grid1.Coords) (c0_i32_1447 : BitVec 32) : Fin 2 → Nat :=
  let arg1 : BitVec 32 := BitVec.ofNat 32 (i 1).val
  let c4_i32_1446 : BitVec 32 := 4#32
  let v2526 : BitVec 32 := Scalar.muli arg1 c4_i32_1446
  let v2527 : BitVec 32 := Scalar.addi v2526 c0_i32_1447
  let v2528 : Index := Scalar.indexCast v2527
  let c37_1448 : Index := 37#32
  ![v2528.toNat, 37]
def k1_off39 (i : grid1.Coords) (c0_i32_1486 : BitVec 32) : Fin 2 → Nat :=
  let arg1 : BitVec 32 := BitVec.ofNat 32 (i 1).val
  let c4_i32_1485 : BitVec 32 := 4#32
  let v2594 : BitVec 32 := Scalar.muli arg1 c4_i32_1485
  let v2595 : BitVec 32 := Scalar.addi v2594 c0_i32_1486
  let v2596 : Index := Scalar.indexCast v2595
  let c38_1487 : Index := 38#32
  ![v2596.toNat, 38]
def k1_off40 (i : grid1.Coords) (c0_i32_1525 : BitVec 32) : Fin 2 → Nat :=
  let arg1 : BitVec 32 := BitVec.ofNat 32 (i 1).val
  let c4_i32_1524 : BitVec 32 := 4#32
  let v2662 : BitVec 32 := Scalar.muli arg1 c4_i32_1524
  let v2663 : BitVec 32 := Scalar.addi v2662 c0_i32_1525
  let v2664 : Index := Scalar.indexCast v2663
  let c39_1526 : Index := 39#32
  ![v2664.toNat, 39]
def k1_off41 (i : grid1.Coords) (c0_i32_1564 : BitVec 32) : Fin 2 → Nat :=
  let arg1 : BitVec 32 := BitVec.ofNat 32 (i 1).val
  let c4_i32_1563 : BitVec 32 := 4#32
  let v2730 : BitVec 32 := Scalar.muli arg1 c4_i32_1563
  let v2731 : BitVec 32 := Scalar.addi v2730 c0_i32_1564
  let v2732 : Index := Scalar.indexCast v2731
  let c40_1565 : Index := 40#32
  ![v2732.toNat, 40]
def k1_off42 (i : grid1.Coords) (c0_i32_1603 : BitVec 32) : Fin 2 → Nat :=
  let arg1 : BitVec 32 := BitVec.ofNat 32 (i 1).val
  let c4_i32_1602 : BitVec 32 := 4#32
  let v2798 : BitVec 32 := Scalar.muli arg1 c4_i32_1602
  let v2799 : BitVec 32 := Scalar.addi v2798 c0_i32_1603
  let v2800 : Index := Scalar.indexCast v2799
  let c41_1604 : Index := 41#32
  ![v2800.toNat, 41]
def k1_off43 (i : grid1.Coords) (c0_i32_1642 : BitVec 32) : Fin 2 → Nat :=
  let arg1 : BitVec 32 := BitVec.ofNat 32 (i 1).val
  let c4_i32_1641 : BitVec 32 := 4#32
  let v2866 : BitVec 32 := Scalar.muli arg1 c4_i32_1641
  let v2867 : BitVec 32 := Scalar.addi v2866 c0_i32_1642
  let v2868 : Index := Scalar.indexCast v2867
  let c42_1643 : Index := 42#32
  ![v2868.toNat, 42]
def k1_off44 (i : grid1.Coords) (c0_i32_1681 : BitVec 32) : Fin 2 → Nat :=
  let arg1 : BitVec 32 := BitVec.ofNat 32 (i 1).val
  let c4_i32_1680 : BitVec 32 := 4#32
  let v2934 : BitVec 32 := Scalar.muli arg1 c4_i32_1680
  let v2935 : BitVec 32 := Scalar.addi v2934 c0_i32_1681
  let v2936 : Index := Scalar.indexCast v2935
  let c43_1682 : Index := 43#32
  ![v2936.toNat, 43]
def k1_off45 (i : grid1.Coords) (c0_i32_1720 : BitVec 32) : Fin 2 → Nat :=
  let arg1 : BitVec 32 := BitVec.ofNat 32 (i 1).val
  let c4_i32_1719 : BitVec 32 := 4#32
  let v3002 : BitVec 32 := Scalar.muli arg1 c4_i32_1719
  let v3003 : BitVec 32 := Scalar.addi v3002 c0_i32_1720
  let v3004 : Index := Scalar.indexCast v3003
  let c44_1721 : Index := 44#32
  ![v3004.toNat, 44]
def k1_off46 (i : grid1.Coords) (c0_i32_1759 : BitVec 32) : Fin 2 → Nat :=
  let arg1 : BitVec 32 := BitVec.ofNat 32 (i 1).val
  let c4_i32_1758 : BitVec 32 := 4#32
  let v3070 : BitVec 32 := Scalar.muli arg1 c4_i32_1758
  let v3071 : BitVec 32 := Scalar.addi v3070 c0_i32_1759
  let v3072 : Index := Scalar.indexCast v3071
  let c45_1760 : Index := 45#32
  ![v3072.toNat, 45]
def k1_off47 (i : grid1.Coords) (c0_i32_1798 : BitVec 32) : Fin 2 → Nat :=
  let arg1 : BitVec 32 := BitVec.ofNat 32 (i 1).val
  let c4_i32_1797 : BitVec 32 := 4#32
  let v3138 : BitVec 32 := Scalar.muli arg1 c4_i32_1797
  let v3139 : BitVec 32 := Scalar.addi v3138 c0_i32_1798
  let v3140 : Index := Scalar.indexCast v3139
  let c46_1799 : Index := 46#32
  ![v3140.toNat, 46]
def k1_off48 (i : grid1.Coords) (c0_i32_1837 : BitVec 32) : Fin 2 → Nat :=
  let arg1 : BitVec 32 := BitVec.ofNat 32 (i 1).val
  let c4_i32_1836 : BitVec 32 := 4#32
  let v3206 : BitVec 32 := Scalar.muli arg1 c4_i32_1836
  let v3207 : BitVec 32 := Scalar.addi v3206 c0_i32_1837
  let v3208 : Index := Scalar.indexCast v3207
  let c47_1838 : Index := 47#32
  ![v3208.toNat, 47]
def k1_off49 (i : grid1.Coords) (c0_i32_1876 : BitVec 32) : Fin 2 → Nat :=
  let arg1 : BitVec 32 := BitVec.ofNat 32 (i 1).val
  let c4_i32_1875 : BitVec 32 := 4#32
  let v3274 : BitVec 32 := Scalar.muli arg1 c4_i32_1875
  let v3275 : BitVec 32 := Scalar.addi v3274 c0_i32_1876
  let v3276 : Index := Scalar.indexCast v3275
  let c48_1877 : Index := 48#32
  ![v3276.toNat, 48]
def k1_off50 (i : grid1.Coords) (c0_i32_1915 : BitVec 32) : Fin 2 → Nat :=
  let arg1 : BitVec 32 := BitVec.ofNat 32 (i 1).val
  let c4_i32_1914 : BitVec 32 := 4#32
  let v3342 : BitVec 32 := Scalar.muli arg1 c4_i32_1914
  let v3343 : BitVec 32 := Scalar.addi v3342 c0_i32_1915
  let v3344 : Index := Scalar.indexCast v3343
  let c49_1916 : Index := 49#32
  ![v3344.toNat, 49]
def k1_off51 (i : grid1.Coords) (c0_i32_1954 : BitVec 32) : Fin 2 → Nat :=
  let arg1 : BitVec 32 := BitVec.ofNat 32 (i 1).val
  let c4_i32_1953 : BitVec 32 := 4#32
  let v3410 : BitVec 32 := Scalar.muli arg1 c4_i32_1953
  let v3411 : BitVec 32 := Scalar.addi v3410 c0_i32_1954
  let v3412 : Index := Scalar.indexCast v3411
  let c50_1955 : Index := 50#32
  ![v3412.toNat, 50]
def k1_off52 (i : grid1.Coords) (c0_i32_1993 : BitVec 32) : Fin 2 → Nat :=
  let arg1 : BitVec 32 := BitVec.ofNat 32 (i 1).val
  let c4_i32_1992 : BitVec 32 := 4#32
  let v3478 : BitVec 32 := Scalar.muli arg1 c4_i32_1992
  let v3479 : BitVec 32 := Scalar.addi v3478 c0_i32_1993
  let v3480 : Index := Scalar.indexCast v3479
  let c51_1994 : Index := 51#32
  ![v3480.toNat, 51]
def k1_off53 (i : grid1.Coords) (c0_i32_2032 : BitVec 32) : Fin 2 → Nat :=
  let arg1 : BitVec 32 := BitVec.ofNat 32 (i 1).val
  let c4_i32_2031 : BitVec 32 := 4#32
  let v3546 : BitVec 32 := Scalar.muli arg1 c4_i32_2031
  let v3547 : BitVec 32 := Scalar.addi v3546 c0_i32_2032
  let v3548 : Index := Scalar.indexCast v3547
  let c52_2033 : Index := 52#32
  ![v3548.toNat, 52]
def k1_off54 (i : grid1.Coords) (c0_i32_2071 : BitVec 32) : Fin 2 → Nat :=
  let arg1 : BitVec 32 := BitVec.ofNat 32 (i 1).val
  let c4_i32_2070 : BitVec 32 := 4#32
  let v3614 : BitVec 32 := Scalar.muli arg1 c4_i32_2070
  let v3615 : BitVec 32 := Scalar.addi v3614 c0_i32_2071
  let v3616 : Index := Scalar.indexCast v3615
  let c53_2072 : Index := 53#32
  ![v3616.toNat, 53]
def k1_off55 (i : grid1.Coords) (c0_i32_2110 : BitVec 32) : Fin 2 → Nat :=
  let arg1 : BitVec 32 := BitVec.ofNat 32 (i 1).val
  let c4_i32_2109 : BitVec 32 := 4#32
  let v3682 : BitVec 32 := Scalar.muli arg1 c4_i32_2109
  let v3683 : BitVec 32 := Scalar.addi v3682 c0_i32_2110
  let v3684 : Index := Scalar.indexCast v3683
  let c54_2111 : Index := 54#32
  ![v3684.toNat, 54]
def k1_off56 (i : grid1.Coords) (c0_i32_2149 : BitVec 32) : Fin 2 → Nat :=
  let arg1 : BitVec 32 := BitVec.ofNat 32 (i 1).val
  let c4_i32_2148 : BitVec 32 := 4#32
  let v3750 : BitVec 32 := Scalar.muli arg1 c4_i32_2148
  let v3751 : BitVec 32 := Scalar.addi v3750 c0_i32_2149
  let v3752 : Index := Scalar.indexCast v3751
  let c55_2150 : Index := 55#32
  ![v3752.toNat, 55]
def k1_off57 (i : grid1.Coords) (c0_i32_2188 : BitVec 32) : Fin 2 → Nat :=
  let arg1 : BitVec 32 := BitVec.ofNat 32 (i 1).val
  let c4_i32_2187 : BitVec 32 := 4#32
  let v3818 : BitVec 32 := Scalar.muli arg1 c4_i32_2187
  let v3819 : BitVec 32 := Scalar.addi v3818 c0_i32_2188
  let v3820 : Index := Scalar.indexCast v3819
  let c56_2189 : Index := 56#32
  ![v3820.toNat, 56]
def k1_off58 (i : grid1.Coords) (c0_i32_2227 : BitVec 32) : Fin 2 → Nat :=
  let arg1 : BitVec 32 := BitVec.ofNat 32 (i 1).val
  let c4_i32_2226 : BitVec 32 := 4#32
  let v3886 : BitVec 32 := Scalar.muli arg1 c4_i32_2226
  let v3887 : BitVec 32 := Scalar.addi v3886 c0_i32_2227
  let v3888 : Index := Scalar.indexCast v3887
  let c57_2228 : Index := 57#32
  ![v3888.toNat, 57]
def k1_off59 (i : grid1.Coords) (c0_i32_2266 : BitVec 32) : Fin 2 → Nat :=
  let arg1 : BitVec 32 := BitVec.ofNat 32 (i 1).val
  let c4_i32_2265 : BitVec 32 := 4#32
  let v3954 : BitVec 32 := Scalar.muli arg1 c4_i32_2265
  let v3955 : BitVec 32 := Scalar.addi v3954 c0_i32_2266
  let v3956 : Index := Scalar.indexCast v3955
  let c58_2267 : Index := 58#32
  ![v3956.toNat, 58]
def k1_off60 (i : grid1.Coords) (c0_i32_2305 : BitVec 32) : Fin 2 → Nat :=
  let arg1 : BitVec 32 := BitVec.ofNat 32 (i 1).val
  let c4_i32_2304 : BitVec 32 := 4#32
  let v4022 : BitVec 32 := Scalar.muli arg1 c4_i32_2304
  let v4023 : BitVec 32 := Scalar.addi v4022 c0_i32_2305
  let v4024 : Index := Scalar.indexCast v4023
  let c59_2306 : Index := 59#32
  ![v4024.toNat, 59]
def k1_off61 (i : grid1.Coords) (c0_i32_2344 : BitVec 32) : Fin 2 → Nat :=
  let arg1 : BitVec 32 := BitVec.ofNat 32 (i 1).val
  let c4_i32_2343 : BitVec 32 := 4#32
  let v4090 : BitVec 32 := Scalar.muli arg1 c4_i32_2343
  let v4091 : BitVec 32 := Scalar.addi v4090 c0_i32_2344
  let v4092 : Index := Scalar.indexCast v4091
  let c60_2345 : Index := 60#32
  ![v4092.toNat, 60]
def k1_off62 (i : grid1.Coords) (c0_i32_2383 : BitVec 32) : Fin 2 → Nat :=
  let arg1 : BitVec 32 := BitVec.ofNat 32 (i 1).val
  let c4_i32_2382 : BitVec 32 := 4#32
  let v4158 : BitVec 32 := Scalar.muli arg1 c4_i32_2382
  let v4159 : BitVec 32 := Scalar.addi v4158 c0_i32_2383
  let v4160 : Index := Scalar.indexCast v4159
  let c61_2384 : Index := 61#32
  ![v4160.toNat, 61]
def k1_off63 (i : grid1.Coords) (c0_i32_2422 : BitVec 32) : Fin 2 → Nat :=
  let arg1 : BitVec 32 := BitVec.ofNat 32 (i 1).val
  let c4_i32_2421 : BitVec 32 := 4#32
  let v4226 : BitVec 32 := Scalar.muli arg1 c4_i32_2421
  let v4227 : BitVec 32 := Scalar.addi v4226 c0_i32_2422
  let v4228 : Index := Scalar.indexCast v4227
  let c62_2423 : Index := 62#32
  ![v4228.toNat, 62]
def k1_off64 (i : grid1.Coords) (c0_i32_2461 : BitVec 32) : Fin 2 → Nat :=
  let arg1 : BitVec 32 := BitVec.ofNat 32 (i 1).val
  let c4_i32_2460 : BitVec 32 := 4#32
  let v4294 : BitVec 32 := Scalar.muli arg1 c4_i32_2460
  let v4295 : BitVec 32 := Scalar.addi v4294 c0_i32_2461
  let v4296 : Index := Scalar.indexCast v4295
  let c63_2462 : Index := 63#32
  ![v4296.toNat, 63]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S28x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x8192 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Quant.lean ====
abbrev S1x3072x8192 : Shape := ⟨3, ![1, 3072, 8192]⟩
abbrev S3072x8192 : Shape := ⟨2, ![3072, 8192]⟩
abbrev S3072x64 : Shape := ⟨2, ![3072, 64]⟩
abbrev S256x8192 : Shape := ⟨2, ![256, 8192]⟩
abbrev S256x64 : Shape := ⟨2, ![256, 64]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x3072x8192, .bf16⟩
  | .hbm, ⟨1, _⟩ => ⟨S3072x8192, .bf16⟩
  | .hbm, ⟨2, _⟩ => ⟨S3072x8192, .fp8e4m3⟩
  | .hbm, ⟨3, _⟩ => ⟨S3072x64, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x64, .f32⟩
  | .local _ .vmem, ⟨5, _⟩ => ⟨S256x64, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantReference.lean ====
abbrev S1x3072x8192 : Shape := ⟨3, ![1, 3072, 8192]⟩
abbrev S3072x8192 : Shape := ⟨2, ![3072, 8192]⟩
abbrev S3072x64 : Shape := ⟨2, ![3072, 64]⟩
abbrev S3072x64x128 : Shape := ⟨3, ![3072, 64, 128]⟩
abbrev S3072x64x1 : Shape := ⟨3, ![3072, 64, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x3072x8192, .bf16⟩
  | .hbm, ⟨1, _⟩ => ⟨S3072x8192, .bf16⟩
  | .hbm, ⟨2, _⟩ => ⟨S3072x8192, .fp8e4m3⟩
  | .hbm, ⟨3, _⟩ => ⟨S3072x64, .f32⟩
  | .local _ .vmem, ⟨0, _⟩ => ⟨S3072x8192, .bf16⟩
  | .local _ .vmem, ⟨1, _⟩ => ⟨S3072x8192, .fp8e4m3⟩
  | .local _ .vmem, ⟨2, _⟩ => ⟨S3072x64, .f32⟩
  | _, _ => ⟨S1x3072x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Gmm.lean ====
abbrev S3072x8192 : Shape := ⟨2, ![3072, 8192]⟩
abbrev S3072x64 : Shape := ⟨2, ![3072, 64]⟩
abbrev S3584x8192 : Shape := ⟨2, ![3584, 8192]⟩
abbrev S28x64 : Shape := ⟨2, ![28, 64]⟩
abbrev S3584 : Shape := ⟨1, ![3584]⟩
abbrev S64x3072 : Shape := ⟨2, ![64, 3072]⟩
abbrev S1x3584 : Shape := ⟨2, ![1, 3584]⟩
abbrev S3072x3584 : Shape := ⟨2, ![3072, 3584]⟩
abbrev S512x8192 : Shape := ⟨2, ![512, 8192]⟩
abbrev S64x512 : Shape := ⟨2, ![64, 512]⟩
abbrev S1x512 : Shape := ⟨2, ![1, 512]⟩
abbrev S512x512 : Shape := ⟨2, ![512, 512]⟩
abbrev S512x128 : Shape := ⟨2, ![512, 128]⟩
abbrev S1x1 : Shape := ⟨2, ![1, 1]⟩
abbrev S128x512 : Shape := ⟨2, ![128, 512]⟩

abbrev nBuf : Space → Nat
  | .hbm => 8
  | .vmem => 11
  | .smem => 1
  | _ => 0

abbrev bufTy : (tb : Table) → Fin (tcTables nBuf tb) → BufTy
  | .hbm, ⟨0, _⟩ => ⟨S3072x8192, .fp8e4m3⟩
  | .hbm, ⟨1, _⟩ => ⟨S3072x64, .f32⟩
  | .hbm, ⟨2, _⟩ => ⟨S3584x8192, .fp8e4m3⟩
  | .hbm, ⟨3, _⟩ => ⟨S28x64, .f32⟩
  | .hbm, ⟨4, _⟩ => ⟨S3584, .f32⟩
  | .hbm, ⟨5, _⟩ => ⟨S64x3072, .f32⟩
  | .hbm, ⟨6, _⟩ => ⟨S1x3584, .f32⟩
  | .hbm, ⟨7, _⟩ => ⟨S3072x3584, .bf16⟩
  | .local _ .vmem, ⟨0, _⟩ => ⟨S512x8192, .fp8e4m3⟩
  | .local _ .vmem, ⟨1, _⟩ => ⟨S512x8192, .fp8e4m3⟩
  | .local _ .vmem, ⟨2, _⟩ => ⟨S512x8192, .fp8e4m3⟩
  | .local _ .vmem, ⟨3, _⟩ => ⟨S512x8192, .fp8e4m3⟩
  | .local _ .vmem, ⟨4, _⟩ => ⟨S64x512, .f32⟩
  | .local _ .vmem, ⟨5, _⟩ => ⟨S64x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .smem, ⟨0, _⟩ => ⟨S28x64, .f32⟩
  | _, _ => ⟨S3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 7], ![false, false]⟩

def k0_off1 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v11 : Index := Scalar.indexCast v10
  let c0_8 : Index := 0#32
  ![v11.toNat, 0]
def k0_off2 (i : grid0.Coords) (c0_i32_41 : BitVec 32) : Fin 2 → Nat :=
  let arg1 : BitVec 32 := BitVec.ofNat 32 (i 1).val
  let c4_i32_40 : BitVec 32 := 4#32
  let v76 : BitVec 32 := Scalar.muli arg1 c4_i32_40
  let v77 : BitVec 32 := Scalar.addi v76 c0_i32_41
  let v78 : Index := Scalar.indexCast v77
  let c1_42 : Index := 1#32
  ![v78.toNat, 1]
def k0_off3 (i : grid0.Coords) (c0_i32_81 : BitVec 32) : Fin 2 → Nat :=
  let arg1 : BitVec 32 := BitVec.ofNat 32 (i 1).val
  let c4_i32_80 : BitVec 32 := 4#32
  let v143 : BitVec 32 := Scalar.muli arg1 c4_i32_80
  let v144 : BitVec 32 := Scalar.addi v143 c0_i32_81
  let v145 : Index := Scalar.indexCast v144
  let c2_82 : Index := 2#32
  ![v145.toNat, 2]
def k0_off4 (i : grid0.Coords) (c0_i32_121 : BitVec 32) : Fin 2 → Nat :=
  let arg1 : BitVec 32 := BitVec.ofNat 32 (i 1).val
  let c4_i32_120 : BitVec 32 := 4#32
  let v210 : BitVec 32 := Scalar.muli arg1 c4_i32_120
  let v211 : BitVec 32 := Scalar.addi v210 c0_i32_121
  let v212 : Index := Scalar.indexCast v211
  let c3_122 : Index := 3#32
  ![v212.toNat, 3]
def k0_off5 (i : grid0.Coords) (c0_i32_160 : BitVec 32) : Fin 2 → Nat :=
  let arg1 : BitVec 32 := BitVec.ofNat 32 (i 1).val
  let c4_i32_159 : BitVec 32 := 4#32
  let v277 : BitVec 32 := Scalar.muli arg1 c4_i32_159
  let v278 : BitVec 32 := Scalar.addi v277 c0_i32_160
  let v279 : Index := Scalar.indexCast v278
  let c4_161 : Index := 4#32
  ![v279.toNat, 4]
def k0_off6 (i : grid0.Coords) (c0_i32_199 : BitVec 32) : Fin 2 → Nat :=
  let arg1 : BitVec 32 := BitVec.ofNat 32 (i 1).val
  let c4_i32_198 : BitVec 32 := 4#32
  let v344 : BitVec 32 := Scalar.muli arg1 c4_i32_198
  let v345 : BitVec 32 := Scalar.addi v344 c0_i32_199
  let v346 : Index := Scalar.indexCast v345
  let c5_200 : Index := 5#32
  ![v346.toNat, 5]
def k0_off7 (i : grid0.Coords) (c0_i32_238 : BitVec 32) : Fin 2 → Nat :=
  let arg1 : BitVec 32 := BitVec.ofNat 32 (i 1).val
  let c4_i32_237 : BitVec 32 := 4#32
  let v411 : BitVec 32 := Scalar.muli arg1 c4_i32_237
  let v412 : BitVec 32 := Scalar.addi v411 c0_i32_238
  let v413 : Index := Scalar.indexCast v412
  let c6_239 : Index := 6#32
  ![v413.toNat, 6]
def k0_off8 (i : grid0.Coords) (c0_i32_277 : BitVec 32) : Fin 2 → Nat :=
  let arg1 : BitVec 32 := BitVec.ofNat 32 (i 1).val
  let c4_i32_276 : BitVec 32 := 4#32
  let v478 : BitVec 32 := Scalar.muli arg1 c4_i32_276
  let v479 : BitVec 32 := Scalar.addi v478 c0_i32_277
  let v480 : Index := Scalar.indexCast v479
  let c7_278 : Index := 7#32
  ![v480.toNat, 7]
def k0_off9 (i : grid0.Coords) (c0_i32_316 : BitVec 32) : Fin 2 → Nat :=
  let arg1 : BitVec 32 := BitVec.ofNat 32 (i 1).val
  let c4_i32_315 : BitVec 32 := 4#32
  let v545 : BitVec 32 := Scalar.muli arg1 c4_i32_315
  let v546 : BitVec 32 := Scalar.addi v545 c0_i32_316
  let v547 : Index := Scalar.indexCast v546
  let c8_317 : Index := 8#32
  ![v547.toNat, 8]
def k0_off10 (i : grid0.Coords) (c0_i32_355 : BitVec 32) : Fin 2 → Nat :=
  let arg1 : BitVec 32 := BitVec.ofNat 32 (i 1).val
  let c4_i32_354 : BitVec 32 := 4#32
  let v612 : BitVec 32 := Scalar.muli arg1 c4_i32_354
  let v613 : BitVec 32 := Scalar.addi v612 c0_i32_355
  let v614 : Index := Scalar.indexCast v613
  let c9_356 : Index := 9#32
  ![v614.toNat, 9]
def k0_off11 (i : grid0.Coords) (c0_i32_394 : BitVec 32) : Fin 2 → Nat :=
  let arg1 : BitVec 32 := BitVec.ofNat 32 (i 1).val
  let c4_i32_393 : BitVec 32 := 4#32
  let v679 : BitVec 32 := Scalar.muli arg1 c4_i32_393
  let v680 : BitVec 32 := Scalar.addi v679 c0_i32_394
  let v681 : Index := Scalar.indexCast v680
  let c10_395 : Index := 10#32
  ![v681.toNat, 10]
def k0_off12 (i : grid0.Coords) (c0_i32_433 : BitVec 32) : Fin 2 → Nat :=
  let arg1 : BitVec 32 := BitVec.ofNat 32 (i 1).val
  let c4_i32_432 : BitVec 32 := 4#32
  let v746 : BitVec 32 := Scalar.muli arg1 c4_i32_432
  let v747 : BitVec 32 := Scalar.addi v746 c0_i32_433
  let v748 : Index := Scalar.indexCast v747
  let c11_434 : Index := 11#32
  ![v748.toNat, 11]
def k0_off13 (i : grid0.Coords) (c0_i32_472 : BitVec 32) : Fin 2 → Nat :=
  let arg1 : BitVec 32 := BitVec.ofNat 32 (i 1).val
  let c4_i32_471 : BitVec 32 := 4#32
  let v813 : BitVec 32 := Scalar.muli arg1 c4_i32_471
  let v814 : BitVec 32 := Scalar.addi v813 c0_i32_472
  let v815 : Index := Scalar.indexCast v814
  let c12_473 : Index := 12#32
  ![v815.toNat, 12]
def k0_off14 (i : grid0.Coords) (c0_i32_511 : BitVec 32) : Fin 2 → Nat :=
  let arg1 : BitVec 32 := BitVec.ofNat 32 (i 1).val
  let c4_i32_510 : BitVec 32 := 4#32
  let v880 : BitVec 32 := Scalar.muli arg1 c4_i32_510
  let v881 : BitVec 32 := Scalar.addi v880 c0_i32_511
  let v882 : Index := Scalar.indexCast v881
  let c13_512 : Index := 13#32
  ![v882.toNat, 13]
def k0_off15 (i : grid0.Coords) (c0_i32_550 : BitVec 32) : Fin 2 → Nat :=
  let arg1 : BitVec 32 := BitVec.ofNat 32 (i 1).val
  let c4_i32_549 : BitVec 32 := 4#32
  let v947 : BitVec 32 := Scalar.muli arg1 c4_i32_549
  let v948 : BitVec 32 := Scalar.addi v947 c0_i32_550
  let v949 : Index := Scalar.indexCast v948
  let c14_551 : Index := 14#32
  ![v949.toNat, 14]
def k0_off16 (i : grid0.Coords) (c0_i32_589 : BitVec 32) : Fin 2 → Nat :=
  let arg1 : BitVec 32 := BitVec.ofNat 32 (i 1).val
  let c4_i32_588 : BitVec 32 := 4#32
  let v1014 : BitVec 32 := Scalar.muli arg1 c4_i32_588
  let v1015 : BitVec 32 := Scalar.addi v1014 c0_i32_589
  let v1016 : Index := Scalar.indexCast v1015
  let c15_590 : Index := 15#32
  ![v1016.toNat, 15]
def k0_off17 (i : grid0.Coords) (c0_i32_628 : BitVec 32) : Fin 2 → Nat :=
  let arg1 : BitVec 32 := BitVec.ofNat 32 (i 1).val
  let c4_i32_627 : BitVec 32 := 4#32
  let v1081 : BitVec 32 := Scalar.muli arg1 c4_i32_627
  let v1082 : BitVec 32 := Scalar.addi v1081 c0_i32_628
  let v1083 : Index := Scalar.indexCast v1082
  let c16_629 : Index := 16#32
  ![v1083.toNat, 16]
def k0_off18 (i : grid0.Coords) (c0_i32_667 : BitVec 32) : Fin 2 → Nat :=
  let arg1 : BitVec 32 := BitVec.ofNat 32 (i 1).val
  let c4_i32_666 : BitVec 32 := 4#32
  let v1148 : BitVec 32 := Scalar.muli arg1 c4_i32_666
  let v1149 : BitVec 32 := Scalar.addi v1148 c0_i32_667
  let v1150 : Index := Scalar.indexCast v1149
  let c17_668 : Index := 17#32
  ![v1150.toNat, 17]
def k0_off19 (i : grid0.Coords) (c0_i32_706 : BitVec 32) : Fin 2 → Nat :=
  let arg1 : BitVec 32 := BitVec.ofNat 32 (i 1).val
  let c4_i32_705 : BitVec 32 := 4#32
  let v1215 : BitVec 32 := Scalar.muli arg1 c4_i32_705
  let v1216 : BitVec 32 := Scalar.addi v1215 c0_i32_706
  let v1217 : Index := Scalar.indexCast v1216
  let c18_707 : Index := 18#32
  ![v1217.toNat, 18]
def k0_off20 (i : grid0.Coords) (c0_i32_745 : BitVec 32) : Fin 2 → Nat :=
  let arg1 : BitVec 32 := BitVec.ofNat 32 (i 1).val
  let c4_i32_744 : BitVec 32 := 4#32
  let v1282 : BitVec 32 := Scalar.muli arg1 c4_i32_744
  let v1283 : BitVec 32 := Scalar.addi v1282 c0_i32_745
  let v1284 : Index := Scalar.indexCast v1283
  let c19_746 : Index := 19#32
  ![v1284.toNat, 19]
def k0_off21 (i : grid0.Coords) (c0_i32_784 : BitVec 32) : Fin 2 → Nat :=
  let arg1 : BitVec 32 := BitVec.ofNat 32 (i 1).val
  let c4_i32_783 : BitVec 32 := 4#32
  let v1349 : BitVec 32 := Scalar.muli arg1 c4_i32_783
  let v1350 : BitVec 32 := Scalar.addi v1349 c0_i32_784
  let v1351 : Index := Scalar.indexCast v1350
  let c20_785 : Index := 20#32
  ![v1351.toNat, 20]
def k0_off22 (i : grid0.Coords) (c0_i32_823 : BitVec 32) : Fin 2 → Nat :=
  let arg1 : BitVec 32 := BitVec.ofNat 32 (i 1).val
  let c4_i32_822 : BitVec 32 := 4#32
  let v1416 : BitVec 32 := Scalar.muli arg1 c4_i32_822
  let v1417 : BitVec 32 := Scalar.addi v1416 c0_i32_823
  let v1418 : Index := Scalar.indexCast v1417
  let c21_824 : Index := 21#32
  ![v1418.toNat, 21]
def k0_off23 (i : grid0.Coords) (c0_i32_862 : BitVec 32) : Fin 2 → Nat :=
  let arg1 : BitVec 32 := BitVec.ofNat 32 (i 1).val
  let c4_i32_861 : BitVec 32 := 4#32
  let v1483 : BitVec 32 := Scalar.muli arg1 c4_i32_861
  let v1484 : BitVec 32 := Scalar.addi v1483 c0_i32_862
  let v1485 : Index := Scalar.indexCast v1484
  let c22_863 : Index := 22#32
  ![v1485.toNat, 22]
def k0_off24 (i : grid0.Coords) (c0_i32_901 : BitVec 32) : Fin 2 → Nat :=
  let arg1 : BitVec 32 := BitVec.ofNat 32 (i 1).val
  let c4_i32_900 : BitVec 32 := 4#32
  let v1550 : BitVec 32 := Scalar.muli arg1 c4_i32_900
  let v1551 : BitVec 32 := Scalar.addi v1550 c0_i32_901
  let v1552 : Index := Scalar.indexCast v1551
  let c23_902 : Index := 23#32
  ![v1552.toNat, 23]
def k0_off25 (i : grid0.Coords) (c0_i32_940 : BitVec 32) : Fin 2 → Nat :=
  let arg1 : BitVec 32 := BitVec.ofNat 32 (i 1).val
  let c4_i32_939 : BitVec 32 := 4#32
  let v1617 : BitVec 32 := Scalar.muli arg1 c4_i32_939
  let v1618 : BitVec 32 := Scalar.addi v1617 c0_i32_940
  let v1619 : Index := Scalar.indexCast v1618
  let c24_941 : Index := 24#32
  ![v1619.toNat, 24]
def k0_off26 (i : grid0.Coords) (c0_i32_979 : BitVec 32) : Fin 2 → Nat :=
  let arg1 : BitVec 32 := BitVec.ofNat 32 (i 1).val
  let c4_i32_978 : BitVec 32 := 4#32
  let v1684 : BitVec 32 := Scalar.muli arg1 c4_i32_978
  let v1685 : BitVec 32 := Scalar.addi v1684 c0_i32_979
  let v1686 : Index := Scalar.indexCast v1685
  let c25_980 : Index := 25#32
  ![v1686.toNat, 25]
def k0_off27 (i : grid0.Coords) (c0_i32_1018 : BitVec 32) : Fin 2 → Nat :=
  let arg1 : BitVec 32 := BitVec.ofNat 32 (i 1).val
  let c4_i32_1017 : BitVec 32 := 4#32
  let v1751 : BitVec 32 := Scalar.muli arg1 c4_i32_1017
  let v1752 : BitVec 32 := Scalar.addi v1751 c0_i32_1018
  let v1753 : Index := Scalar.indexCast v1752
  let c26_1019 : Index := 26#32
  ![v1753.toNat, 26]
def k0_off28 (i : grid0.Coords) (c0_i32_1057 : BitVec 32) : Fin 2 → Nat :=
  let arg1 : BitVec 32 := BitVec.ofNat 32 (i 1).val
  let c4_i32_1056 : BitVec 32 := 4#32
  let v1818 : BitVec 32 := Scalar.muli arg1 c4_i32_1056
  let v1819 : BitVec 32 := Scalar.addi v1818 c0_i32_1057
  let v1820 : Index := Scalar.indexCast v1819
  let c27_1058 : Index := 27#32
  ![v1820.toNat, 27]
def k0_off29 (i : grid0.Coords) (c0_i32_1096 : BitVec 32) : Fin 2 → Nat :=
  let arg1 : BitVec 32 := BitVec.ofNat 32 (i 1).val
  let c4_i32_1095 : BitVec 32 := 4#32
  let v1885 : BitVec 32 := Scalar.muli arg1 c4_i32_1095
  let v1886 : BitVec 32 := Scalar.addi v1885 c0_i32_1096
  let v1887 : Index := Scalar.indexCast v1886
  let c28_1097 : Index := 28#32
  ![v1887.toNat, 28]
def k0_off30 (i : grid0.Coords) (c0_i32_1135 : BitVec 32) : Fin 2 → Nat :=
  let arg1 : BitVec 32 := BitVec.ofNat 32 (i 1).val
  let c4_i32_1134 : BitVec 32 := 4#32
  let v1952 : BitVec 32 := Scalar.muli arg1 c4_i32_1134
  let v1953 : BitVec 32 := Scalar.addi v1952 c0_i32_1135
  let v1954 : Index := Scalar.indexCast v1953
  let c29_1136 : Index := 29#32
  ![v1954.toNat, 29]
def k0_off31 (i : grid0.Coords) (c0_i32_1174 : BitVec 32) : Fin 2 → Nat :=
  let arg1 : BitVec 32 := BitVec.ofNat 32 (i 1).val
  let c4_i32_1173 : BitVec 32 := 4#32
  let v2019 : BitVec 32 := Scalar.muli arg1 c4_i32_1173
  let v2020 : BitVec 32 := Scalar.addi v2019 c0_i32_1174
  let v2021 : Index := Scalar.indexCast v2020
  let c30_1175 : Index := 30#32
  ![v2021.toNat, 30]
def k0_off32 (i : grid0.Coords) (c0_i32_1213 : BitVec 32) : Fin 2 → Nat :=
  let arg1 : BitVec 32 := BitVec.ofNat 32 (i 1).val
  let c4_i32_1212 : BitVec 32 := 4#32
  let v2086 : BitVec 32 := Scalar.muli arg1 c4_i32_1212
  let v2087 : BitVec 32 := Scalar.addi v2086 c0_i32_1213
  let v2088 : Index := Scalar.indexCast v2087
  let c31_1214 : Index := 31#32
  ![v2088.toNat, 31]
def k0_off33 (i : grid0.Coords) (c0_i32_1252 : BitVec 32) : Fin 2 → Nat :=
  let arg1 : BitVec 32 := BitVec.ofNat 32 (i 1).val
  let c4_i32_1251 : BitVec 32 := 4#32
  let v2153 : BitVec 32 := Scalar.muli arg1 c4_i32_1251
  let v2154 : BitVec 32 := Scalar.addi v2153 c0_i32_1252
  let v2155 : Index := Scalar.indexCast v2154
  let c32_1253 : Index := 32#32
  ![v2155.toNat, 32]
def k0_off34 (i : grid0.Coords) (c0_i32_1291 : BitVec 32) : Fin 2 → Nat :=
  let arg1 : BitVec 32 := BitVec.ofNat 32 (i 1).val
  let c4_i32_1290 : BitVec 32 := 4#32
  let v2220 : BitVec 32 := Scalar.muli arg1 c4_i32_1290
  let v2221 : BitVec 32 := Scalar.addi v2220 c0_i32_1291
  let v2222 : Index := Scalar.indexCast v2221
  let c33_1292 : Index := 33#32
  ![v2222.toNat, 33]
def k0_off35 (i : grid0.Coords) (c0_i32_1330 : BitVec 32) : Fin 2 → Nat :=
  let arg1 : BitVec 32 := BitVec.ofNat 32 (i 1).val
  let c4_i32_1329 : BitVec 32 := 4#32
  let v2287 : BitVec 32 := Scalar.muli arg1 c4_i32_1329
  let v2288 : BitVec 32 := Scalar.addi v2287 c0_i32_1330
  let v2289 : Index := Scalar.indexCast v2288
  let c34_1331 : Index := 34#32
  ![v2289.toNat, 34]
def k0_off36 (i : grid0.Coords) (c0_i32_1369 : BitVec 32) : Fin 2 → Nat :=
  let arg1 : BitVec 32 := BitVec.ofNat 32 (i 1).val
  let c4_i32_1368 : BitVec 32 := 4#32
  let v2354 : BitVec 32 := Scalar.muli arg1 c4_i32_1368
  let v2355 : BitVec 32 := Scalar.addi v2354 c0_i32_1369
  let v2356 : Index := Scalar.indexCast v2355
  let c35_1370 : Index := 35#32
  ![v2356.toNat, 35]
def k0_off37 (i : grid0.Coords) (c0_i32_1408 : BitVec 32) : Fin 2 → Nat :=
  let arg1 : BitVec 32 := BitVec.ofNat 32 (i 1).val
  let c4_i32_1407 : BitVec 32 := 4#32
  let v2421 : BitVec 32 := Scalar.muli arg1 c4_i32_1407
  let v2422 : BitVec 32 := Scalar.addi v2421 c0_i32_1408
  let v2423 : Index := Scalar.indexCast v2422
  let c36_1409 : Index := 36#32
  ![v2423.toNat, 36]
def k0_off38 (i : grid0.Coords) (c0_i32_1447 : BitVec 32) : Fin 2 → Nat :=
  let arg1 : BitVec 32 := BitVec.ofNat 32 (i 1).val
  let c4_i32_1446 : BitVec 32 := 4#32
  let v2488 : BitVec 32 := Scalar.muli arg1 c4_i32_1446
  let v2489 : BitVec 32 := Scalar.addi v2488 c0_i32_1447
  let v2490 : Index := Scalar.indexCast v2489
  let c37_1448 : Index := 37#32
  ![v2490.toNat, 37]
def k0_off39 (i : grid0.Coords) (c0_i32_1486 : BitVec 32) : Fin 2 → Nat :=
  let arg1 : BitVec 32 := BitVec.ofNat 32 (i 1).val
  let c4_i32_1485 : BitVec 32 := 4#32
  let v2555 : BitVec 32 := Scalar.muli arg1 c4_i32_1485
  let v2556 : BitVec 32 := Scalar.addi v2555 c0_i32_1486
  let v2557 : Index := Scalar.indexCast v2556
  let c38_1487 : Index := 38#32
  ![v2557.toNat, 38]
def k0_off40 (i : grid0.Coords) (c0_i32_1525 : BitVec 32) : Fin 2 → Nat :=
  let arg1 : BitVec 32 := BitVec.ofNat 32 (i 1).val
  let c4_i32_1524 : BitVec 32 := 4#32
  let v2622 : BitVec 32 := Scalar.muli arg1 c4_i32_1524
  let v2623 : BitVec 32 := Scalar.addi v2622 c0_i32_1525
  let v2624 : Index := Scalar.indexCast v2623
  let c39_1526 : Index := 39#32
  ![v2624.toNat, 39]
def k0_off41 (i : grid0.Coords) (c0_i32_1564 : BitVec 32) : Fin 2 → Nat :=
  let arg1 : BitVec 32 := BitVec.ofNat 32 (i 1).val
  let c4_i32_1563 : BitVec 32 := 4#32
  let v2689 : BitVec 32 := Scalar.muli arg1 c4_i32_1563
  let v2690 : BitVec 32 := Scalar.addi v2689 c0_i32_1564
  let v2691 : Index := Scalar.indexCast v2690
  let c40_1565 : Index := 40#32
  ![v2691.toNat, 40]
def k0_off42 (i : grid0.Coords) (c0_i32_1603 : BitVec 32) : Fin 2 → Nat :=
  let arg1 : BitVec 32 := BitVec.ofNat 32 (i 1).val
  let c4_i32_1602 : BitVec 32 := 4#32
  let v2756 : BitVec 32 := Scalar.muli arg1 c4_i32_1602
  let v2757 : BitVec 32 := Scalar.addi v2756 c0_i32_1603
  let v2758 : Index := Scalar.indexCast v2757
  let c41_1604 : Index := 41#32
  ![v2758.toNat, 41]
def k0_off43 (i : grid0.Coords) (c0_i32_1642 : BitVec 32) : Fin 2 → Nat :=
  let arg1 : BitVec 32 := BitVec.ofNat 32 (i 1).val
  let c4_i32_1641 : BitVec 32 := 4#32
  let v2823 : BitVec 32 := Scalar.muli arg1 c4_i32_1641
  let v2824 : BitVec 32 := Scalar.addi v2823 c0_i32_1642
  let v2825 : Index := Scalar.indexCast v2824
  let c42_1643 : Index := 42#32
  ![v2825.toNat, 42]
def k0_off44 (i : grid0.Coords) (c0_i32_1681 : BitVec 32) : Fin 2 → Nat :=
  let arg1 : BitVec 32 := BitVec.ofNat 32 (i 1).val
  let c4_i32_1680 : BitVec 32 := 4#32
  let v2890 : BitVec 32 := Scalar.muli arg1 c4_i32_1680
  let v2891 : BitVec 32 := Scalar.addi v2890 c0_i32_1681
  let v2892 : Index := Scalar.indexCast v2891
  let c43_1682 : Index := 43#32
  ![v2892.toNat, 43]
def k0_off45 (i : grid0.Coords) (c0_i32_1720 : BitVec 32) : Fin 2 → Nat :=
  let arg1 : BitVec 32 := BitVec.ofNat 32 (i 1).val
  let c4_i32_1719 : BitVec 32 := 4#32
  let v2957 : BitVec 32 := Scalar.muli arg1 c4_i32_1719
  let v2958 : BitVec 32 := Scalar.addi v2957 c0_i32_1720
  let v2959 : Index := Scalar.indexCast v2958
  let c44_1721 : Index := 44#32
  ![v2959.toNat, 44]
def k0_off46 (i : grid0.Coords) (c0_i32_1759 : BitVec 32) : Fin 2 → Nat :=
  let arg1 : BitVec 32 := BitVec.ofNat 32 (i 1).val
  let c4_i32_1758 : BitVec 32 := 4#32
  let v3024 : BitVec 32 := Scalar.muli arg1 c4_i32_1758
  let v3025 : BitVec 32 := Scalar.addi v3024 c0_i32_1759
  let v3026 : Index := Scalar.indexCast v3025
  let c45_1760 : Index := 45#32
  ![v3026.toNat, 45]
def k0_off47 (i : grid0.Coords) (c0_i32_1798 : BitVec 32) : Fin 2 → Nat :=
  let arg1 : BitVec 32 := BitVec.ofNat 32 (i 1).val
  let c4_i32_1797 : BitVec 32 := 4#32
  let v3091 : BitVec 32 := Scalar.muli arg1 c4_i32_1797
  let v3092 : BitVec 32 := Scalar.addi v3091 c0_i32_1798
  let v3093 : Index := Scalar.indexCast v3092
  let c46_1799 : Index := 46#32
  ![v3093.toNat, 46]
def k0_off48 (i : grid0.Coords) (c0_i32_1837 : BitVec 32) : Fin 2 → Nat :=
  let arg1 : BitVec 32 := BitVec.ofNat 32 (i 1).val
  let c4_i32_1836 : BitVec 32 := 4#32
  let v3158 : BitVec 32 := Scalar.muli arg1 c4_i32_1836
  let v3159 : BitVec 32 := Scalar.addi v3158 c0_i32_1837
  let v3160 : Index := Scalar.indexCast v3159
  let c47_1838 : Index := 47#32
  ![v3160.toNat, 47]
def k0_off49 (i : grid0.Coords) (c0_i32_1876 : BitVec 32) : Fin 2 → Nat :=
  let arg1 : BitVec 32 := BitVec.ofNat 32 (i 1).val
  let c4_i32_1875 : BitVec 32 := 4#32
  let v3225 : BitVec 32 := Scalar.muli arg1 c4_i32_1875
  let v3226 : BitVec 32 := Scalar.addi v3225 c0_i32_1876
  let v3227 : Index := Scalar.indexCast v3226
  let c48_1877 : Index := 48#32
  ![v3227.toNat, 48]
def k0_off50 (i : grid0.Coords) (c0_i32_1915 : BitVec 32) : Fin 2 → Nat :=
  let arg1 : BitVec 32 := BitVec.ofNat 32 (i 1).val
  let c4_i32_1914 : BitVec 32 := 4#32
  let v3292 : BitVec 32 := Scalar.muli arg1 c4_i32_1914
  let v3293 : BitVec 32 := Scalar.addi v3292 c0_i32_1915
  let v3294 : Index := Scalar.indexCast v3293
  let c49_1916 : Index := 49#32
  ![v3294.toNat, 49]
def k0_off51 (i : grid0.Coords) (c0_i32_1954 : BitVec 32) : Fin 2 → Nat :=
  let arg1 : BitVec 32 := BitVec.ofNat 32 (i 1).val
  let c4_i32_1953 : BitVec 32 := 4#32
  let v3359 : BitVec 32 := Scalar.muli arg1 c4_i32_1953
  let v3360 : BitVec 32 := Scalar.addi v3359 c0_i32_1954
  let v3361 : Index := Scalar.indexCast v3360
  let c50_1955 : Index := 50#32
  ![v3361.toNat, 50]
def k0_off52 (i : grid0.Coords) (c0_i32_1993 : BitVec 32) : Fin 2 → Nat :=
  let arg1 : BitVec 32 := BitVec.ofNat 32 (i 1).val
  let c4_i32_1992 : BitVec 32 := 4#32
  let v3426 : BitVec 32 := Scalar.muli arg1 c4_i32_1992
  let v3427 : BitVec 32 := Scalar.addi v3426 c0_i32_1993
  let v3428 : Index := Scalar.indexCast v3427
  let c51_1994 : Index := 51#32
  ![v3428.toNat, 51]
def k0_off53 (i : grid0.Coords) (c0_i32_2032 : BitVec 32) : Fin 2 → Nat :=
  let arg1 : BitVec 32 := BitVec.ofNat 32 (i 1).val
  let c4_i32_2031 : BitVec 32 := 4#32
  let v3493 : BitVec 32 := Scalar.muli arg1 c4_i32_2031
  let v3494 : BitVec 32 := Scalar.addi v3493 c0_i32_2032
  let v3495 : Index := Scalar.indexCast v3494
  let c52_2033 : Index := 52#32
  ![v3495.toNat, 52]
def k0_off54 (i : grid0.Coords) (c0_i32_2071 : BitVec 32) : Fin 2 → Nat :=
  let arg1 : BitVec 32 := BitVec.ofNat 32 (i 1).val
  let c4_i32_2070 : BitVec 32 := 4#32
  let v3560 : BitVec 32 := Scalar.muli arg1 c4_i32_2070
  let v3561 : BitVec 32 := Scalar.addi v3560 c0_i32_2071
  let v3562 : Index := Scalar.indexCast v3561
  let c53_2072 : Index := 53#32
  ![v3562.toNat, 53]
def k0_off55 (i : grid0.Coords) (c0_i32_2110 : BitVec 32) : Fin 2 → Nat :=
  let arg1 : BitVec 32 := BitVec.ofNat 32 (i 1).val
  let c4_i32_2109 : BitVec 32 := 4#32
  let v3627 : BitVec 32 := Scalar.muli arg1 c4_i32_2109
  let v3628 : BitVec 32 := Scalar.addi v3627 c0_i32_2110
  let v3629 : Index := Scalar.indexCast v3628
  let c54_2111 : Index := 54#32
  ![v3629.toNat, 54]
def k0_off56 (i : grid0.Coords) (c0_i32_2149 : BitVec 32) : Fin 2 → Nat :=
  let arg1 : BitVec 32 := BitVec.ofNat 32 (i 1).val
  let c4_i32_2148 : BitVec 32 := 4#32
  let v3694 : BitVec 32 := Scalar.muli arg1 c4_i32_2148
  let v3695 : BitVec 32 := Scalar.addi v3694 c0_i32_2149
  let v3696 : Index := Scalar.indexCast v3695
  let c55_2150 : Index := 55#32
  ![v3696.toNat, 55]
def k0_off57 (i : grid0.Coords) (c0_i32_2188 : BitVec 32) : Fin 2 → Nat :=
  let arg1 : BitVec 32 := BitVec.ofNat 32 (i 1).val
  let c4_i32_2187 : BitVec 32 := 4#32
  let v3761 : BitVec 32 := Scalar.muli arg1 c4_i32_2187
  let v3762 : BitVec 32 := Scalar.addi v3761 c0_i32_2188
  let v3763 : Index := Scalar.indexCast v3762
  let c56_2189 : Index := 56#32
  ![v3763.toNat, 56]
def k0_off58 (i : grid0.Coords) (c0_i32_2227 : BitVec 32) : Fin 2 → Nat :=
  let arg1 : BitVec 32 := BitVec.ofNat 32 (i 1).val
  let c4_i32_2226 : BitVec 32 := 4#32
  let v3828 : BitVec 32 := Scalar.muli arg1 c4_i32_2226
  let v3829 : BitVec 32 := Scalar.addi v3828 c0_i32_2227
  let v3830 : Index := Scalar.indexCast v3829
  let c57_2228 : Index := 57#32
  ![v3830.toNat, 57]
def k0_off59 (i : grid0.Coords) (c0_i32_2266 : BitVec 32) : Fin 2 → Nat :=
  let arg1 : BitVec 32 := BitVec.ofNat 32 (i 1).val
  let c4_i32_2265 : BitVec 32 := 4#32
  let v3895 : BitVec 32 := Scalar.muli arg1 c4_i32_2265
  let v3896 : BitVec 32 := Scalar.addi v3895 c0_i32_2266
  let v3897 : Index := Scalar.indexCast v3896
  let c58_2267 : Index := 58#32
  ![v3897.toNat, 58]
def k0_off60 (i : grid0.Coords) (c0_i32_2305 : BitVec 32) : Fin 2 → Nat :=
  let arg1 : BitVec 32 := BitVec.ofNat 32 (i 1).val
  let c4_i32_2304 : BitVec 32 := 4#32
  let v3962 : BitVec 32 := Scalar.muli arg1 c4_i32_2304
  let v3963 : BitVec 32 := Scalar.addi v3962 c0_i32_2305
  let v3964 : Index := Scalar.indexCast v3963
  let c59_2306 : Index := 59#32
  ![v3964.toNat, 59]
def k0_off61 (i : grid0.Coords) (c0_i32_2344 : BitVec 32) : Fin 2 → Nat :=
  let arg1 : BitVec 32 := BitVec.ofNat 32 (i 1).val
  let c4_i32_2343 : BitVec 32 := 4#32
  let v4029 : BitVec 32 := Scalar.muli arg1 c4_i32_2343
  let v4030 : BitVec 32 := Scalar.addi v4029 c0_i32_2344
  let v4031 : Index := Scalar.indexCast v4030
  let c60_2345 : Index := 60#32
  ![v4031.toNat, 60]
def k0_off62 (i : grid0.Coords) (c0_i32_2383 : BitVec 32) : Fin 2 → Nat :=
  let arg1 : BitVec 32 := BitVec.ofNat 32 (i 1).val
  let c4_i32_2382 : BitVec 32 := 4#32
  let v4096 : BitVec 32 := Scalar.muli arg1 c4_i32_2382
  let v4097 : BitVec 32 := Scalar.addi v4096 c0_i32_2383
  let v4098 : Index := Scalar.indexCast v4097
  let c61_2384 : Index := 61#32
  ![v4098.toNat, 61]
def k0_off63 (i : grid0.Coords) (c0_i32_2422 : BitVec 32) : Fin 2 → Nat :=
  let arg1 : BitVec 32 := BitVec.ofNat 32 (i 1).val
  let c4_i32_2421 : BitVec 32 := 4#32
  let v4163 : BitVec 32 := Scalar.muli arg1 c4_i32_2421
  let v4164 : BitVec 32 := Scalar.addi v4163 c0_i32_2422
  let v4165 : Index := Scalar.indexCast v4164
  let c62_2423 : Index := 62#32
  ![v4165.toNat, 62]
def k0_off64 (i : grid0.Coords) (c0_i32_2461 : BitVec 32) : Fin 2 → Nat :=
  let arg1 : BitVec 32 := BitVec.ofNat 32 (i 1).val
  let c4_i32_2460 : BitVec 32 := 4#32
  let v4230 : BitVec 32 := Scalar.muli arg1 c4_i32_2460
  let v4231 : BitVec 32 := Scalar.addi v4230 c0_i32_2461
  let v4232 : Index := Scalar.indexCast v4231
  let c63_2462 : Index := 63#32
  ![v4232.toNat, 63]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S28x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmmReferenceIdeal.lean ====
abbrev S3072x8192 : Shape := ⟨2, ![3072, 8192]⟩
abbrev S3072x64 : Shape := ⟨2, ![3072, 64]⟩
abbrev S3584x8192 : Shape := ⟨2, ![3584, 8192]⟩
abbrev S28x64 : Shape := ⟨2, ![28, 64]⟩
abbrev S3584 : Shape := ⟨1, ![3584]⟩
abbrev S3072x64x128 : Shape := ⟨3, ![3072, 64, 128]⟩
abbrev S3584x64x128 : Shape := ⟨3, ![3584, 64, 128]⟩
abbrev S64x3072 : Shape := ⟨2, ![64, 3072]⟩
abbrev S64x3072x1 : Shape := ⟨3, ![64, 3072, 1]⟩
abbrev S64x28 : Shape := ⟨2, ![64, 28]⟩
abbrev S64x28x128 : Shape := ⟨3, ![64, 28, 128]⟩
abbrev S64x3584 : Shape := ⟨2, ![64, 3584]⟩
abbrev S64x1x3584 : Shape := ⟨3, ![64, 1, 3584]⟩
abbrev S1x3584 : Shape := ⟨2, ![1, 3584]⟩
abbrev S3072x3584 : Shape := ⟨2, ![3072, 3584]⟩
abbrev S64x3072x3584 : Shape := ⟨3, ![64, 3072, 3584]⟩

abbrev nBuf : Space → Nat
  | .hbm => 15
  | .vmem => 6
  | .smem => 0
  | _ => 0

abbrev bufTy : (tb : Table) → Fin (tcTables nBuf tb) → BufTy
  | .hbm, ⟨0, _⟩ => ⟨S3072x8192, .fp8e4m3⟩
  | .hbm, ⟨1, _⟩ => ⟨S3072x64, .f32⟩
  | .hbm, ⟨2, _⟩ => ⟨S3584x8192, .fp8e4m3⟩
  | .hbm, ⟨3, _⟩ => ⟨S28x64, .f32⟩
  | .hbm, ⟨4, _⟩ => ⟨S3584, .f32⟩
  | .hbm, ⟨5, _⟩ => ⟨S3072x64x128, .fp8e4m3⟩
  | .hbm, ⟨6, _⟩ => ⟨S3584x64x128, .fp8e4m3⟩
  | .hbm, ⟨7, _⟩ => ⟨S64x3072, .f32⟩
  | .hbm, ⟨8, _⟩ => ⟨S64x3072x1, .f32⟩
  | .hbm, ⟨9, _⟩ => ⟨S64x28, .f32⟩
  | .hbm, ⟨10, _⟩ => ⟨S64x28x128, .f32⟩
  | .hbm, ⟨11, _⟩ => ⟨S64x3584, .f32⟩
  | .hbm, ⟨12, _⟩ => ⟨S64x1x3584, .f32⟩
  | .hbm, ⟨13, _⟩ => ⟨S1x3584, .f32⟩
  | .hbm, ⟨14, _⟩ => ⟨S3072x3584, .bf16⟩
  | .local _ .vmem, ⟨0, _⟩ => ⟨S3072x64x128, .fp8e4m3⟩
  | .local _ .vmem, ⟨1, _⟩ => ⟨S3584x64x128, .fp8e4m3⟩
  | .local _ .vmem, ⟨2, _⟩ => ⟨S64x3072x1, .f32⟩
  | .local _ .vmem, ⟨3, _⟩ => ⟨S64x1x3584, .f32⟩
  | .local _ .vmem, ⟨4, _⟩ => ⟨S1x3584, .f32⟩
  | .local _ .vmem, ⟨5, _⟩ => ⟨S3072x3584, .bf16⟩
  | _, _ => ⟨S3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QuantMath.lean ====
/- The quantiser's arithmetic, element by element and at any shape.

   `expo a` is the exponent `e` with `a / 448 = m · 2 ^ e` and `1/2 ≤ |m| < 1` (0 where `a` is 0), read off the bits as the
   programs do; `pow2 e` is `2 ^ e` built from the bits; `code x i` clips `x · i` to `± 448` and rounds it to eight bits.
   Each is pointwise, so at an index it depends on the operands' elements there alone (`expo_apply`, `pow2_apply`,
   `code_apply`), and the two programs' shapes do not matter. -/
module

public import proofs.«01_k».proof.Proof.Gen.Quant.Value
public import proofs.«01_k».proof.Proof.Gen.QuantReference.Value
public import Idealize.ShloMosaic.Lib.Pipeline.ValueKit
public import Idealize.ShloMosaic.PureOps.BitExact.Laws

@[expose] public section

set_option maxRecDepth 16384

noncomputable section

namespace Cert.QuantMath

open Idealize.ShloMosaic Idealize.ShloMosaic.TcCoe Idealize.SL.Sem

variable {F : FTy → Type} [BitOps F] {s s' : Shape}

/-- The bits of `a`, a denormal number flushed to the zero of its sign. -/
def flushed (a : FVec F s .f32) : IVec s 32 :=
  have b : IVec s 32 := bitcastToInt a
  bitcastToInt (F := F) (φ := .f32) (bitcastToFloat .f32
    (select (cmpi .eq (andi b (broadcast s 2139095040#32)) (broadcast s 0#32)) (andi b (broadcast s 2147483648#32)) b))

/-- The exponent field of a word of bits. -/
def field (b : IVec s 32) : IVec s 32 := andi (shrui b (broadcast s 23#32)) (broadcast s 255#32)

/-- The exponent `e` of `a / 448 = m · 2 ^ e`, `1/2 ≤ |m| < 1`; 0 where `a` is 0. -/
def expo (a : FVec F s .f32) : IVec s 32 :=
  have f : IVec s 32 := field (flushed (mulf a (broadcast s (Scalar.ofBits .f32 0x3B124925#32))))
  select (cmpf .oeq a (broadcast s (Scalar.ofBits .f32 0x00000000#32))) (broadcast s 0#32)
    (select (ori (cmpi .eq f (broadcast s 255#32)) (cmpi .eq f (broadcast s 0#32))) (broadcast s 0#32)
      (subi f (broadcast s 126#32)))

/-- `2 ^ e`: the bits of 1 with `e` added to the exponent field, zero below the normal range and infinite above it. -/
def pow2 (e : IVec s 32) : FVec F s .f32 :=
  have b : IVec s 32 := flushed (F := F) (broadcast s (Scalar.ofBits .f32 0x3F800000#32))
  have sign : IVec s 32 := andi b (broadcast s 2147483648#32)
  have f : IVec s 32 := field b
  have n : IVec s 32 := addi f (minsi (maxsi e (broadcast s 4294966784#32)) (broadcast s 512#32))
  bitcastToFloat .f32
    (select (cmpi .eq f (broadcast s 255#32)) b
      (select (cmpi .eq f (broadcast s 0#32)) sign
        (select (cmpi .sle n (broadcast s 0#32)) sign
          (select (cmpi .sge n (broadcast s 255#32)) (ori sign (broadcast s 2139095040#32))
            (ori (ori sign (shli n (broadcast s 23#32))) (andi b (broadcast s 8388607#32)))))))

/-- `x · i` clipped to `± 448` and rounded to eight bits. -/
def code (x i : FVec F s .f32) : FVec F s .fp8e4m3 :=
  truncf .fp8e4m3 (minimumf (broadcast s (Scalar.ofBits .f32 0x43E00000#32))
    (maximumf (broadcast s (Scalar.ofBits .f32 0xC3E00000#32)) (mulf x i))) (by decide)

/-- Equal elements have equal exponents. -/
theorem expo_apply (a : FVec F s .f32) (a' : FVec F s' .f32) (j : s.Idx) (j' : s'.Idx) (h : a j = a' j') :
    expo a j = expo a' j' := by
  have e : ∀ {t : Shape} (x : FVec F t .f32) (k : t.Idx), expo x k = expo (s := ⟨0, ![]⟩) (fun _ => x k) (fun a => a.elim0) :=
    fun _ _ => rfl
  rw [e a, e a', h]

/-- Equal exponents have equal powers. -/
theorem pow2_apply (e : IVec s 32) (e' : IVec s' 32) (j : s.Idx) (j' : s'.Idx) (h : e j = e' j') :
    pow2 (F := F) e j = pow2 (F := F) e' j' := by
  have p : ∀ {t : Shape} (x : IVec t 32) (k : t.Idx),
      pow2 (F := F) x k = pow2 (F := F) (s := ⟨0, ![]⟩) (fun _ => x k) (fun a => a.elim0) := fun _ _ => rfl
  rw [p e, p e', h]

/-- Equal elements and factors have equal codes. -/
theorem code_apply (x i : FVec F s .f32) (x' i' : FVec F s' .f32) (j : s.Idx) (j' : s'.Idx) (hx : x j = x' j')
    (hi : i j = i' j') : code x i j = code x' i' j' := by
  have c : ∀ {t : Shape} (x i : FVec F t .f32) (k : t.Idx),
      code x i k = code (s := ⟨0, ![]⟩) (fun _ => x k) (fun _ => i k) (fun a => a.elim0) := fun _ _ _ => rfl
  rw [c x, c x', hx, hi]

/-- The whole array's shapes. -/
abbrev Tokens : Shape := ⟨2, ![3072, 8192]⟩
/-- One entry per token and group. -/
abbrev Groups : Shape := ⟨2, ![3072, 64]⟩

/-- The largest of `128` magnitudes. -/
def amax (f : Fin 128 → Bits .bf16) : Bits .f32 :=
  Finset.univ.fold FloatOps.maximumf (FloatOps.ofBits .f32 0xFF800000#32)
    (fun d => FloatOps.absf (FloatOps.extf (F := Bits) (φ := .bf16) (ψ := .f32) (by decide) (f d)))

/-- The largest magnitude of each token's each group. -/
def amaxes (X : Vec Bits Tokens .bf16) : FVec Bits Groups .f32 := fun j =>
  amax fun d => X (ix2 (j 0) ⟨(j 1).val * 128 + d.val, by have : (j 1).val < 64 := (j 1).isLt; omega⟩)

/-- The scales: the power of two of each group's exponent. -/
def scales (X : Vec Bits Tokens .bf16) : FVec Bits Groups .f32 := pow2 (expo (amaxes X))

/-- The codes: each element times the inverse of its group's scale, clipped and rounded. -/
def codes (X : Vec Bits Tokens .bf16) : FVec Bits Tokens .fp8e4m3 :=
  code (extf .f32 X (by decide)) fun j => pow2 (subi (broadcast Groups 0#32) (expo (amaxes X)))
    (ix2 (j 0) ⟨(j 1).val / 128, Nat.div_lt_of_lt_mul (j 1).isLt⟩)

end Cert.QuantMath

end
-- ==== Proof.QuantRun.lean ====
/- What one run of the quantiser's kernel leaves in its two output blocks, from its input block.

   The kernel finds each of the `64` groups' largest magnitudes and gathers them, one lane at a time, into one array of
   `64` lanes (`lanes`); from that array come the exponents, the scales and the inverse scales, and the codes are stored
   group by group (`tiles`). -/
module

public import proofs.«01_k».proof.Proof.QuantMath
public import Idealize.ShloMosaic.Lib.PointwiseCore

@[expose] public section

set_option maxRecDepth 16384

noncomputable section

namespace Cert.Quant.Run

open Cert.Quant Cert.Quant.Gen Cert.QuantMath Idealize.ShloMosaic Idealize.ShloMosaic.TcCoe Idealize.SL.Sem

variable {F : FTy → Type} [BitOps F]

/-- Columns `128 g … 128 g + 127` of a block lie inside it. -/
theorem group_inb (g : Fin 64) : ∀ a, (![0, g.val * 128] : Fin 2 → ℕ) a + S256x128.size a ≤ S256x8192.size a := by
  have := g.isLt
  intro a
  match a with
  | ⟨0, _⟩ => show 0 + 256 ≤ 256; omega
  | ⟨1, _⟩ => show g.val * 128 + 128 ≤ 8192; omega

/-- Columns `128 g … 128 g + 127` of a block. -/
abbrev group (g : Fin 64) : Rect S256x8192 := Rect.unit (s := S256x8192) ![0, g.val * 128] S256x128.size (group_inb g)

/-- Lane `g` is a slice of the `64` lanes. -/
theorem lane_slices (g : Fin 64) : S256x64.Slices ![0, g.val] S256x1 := by
  have := g.isLt
  refine ⟨rfl, fun a => ?_⟩
  match a with
  | ⟨0, _⟩ => show 0 + 256 ≤ 256; omega
  | ⟨1, _⟩ => show g.val + 1 ≤ 64; omega

/-- Group `g` of a block, in 32-bit floats. -/
def part (x : Vec F S256x8192 .bf16) (g : Fin 64) : FVec F S256x128 .f32 :=
  extf .f32 (shapeCast S256x128 (View.ld x (group g)) shapeCasts_S256x128_S256x128) bitsLt_bf16_f32

/-- The largest magnitude of each row of group `g`. -/
def rowMax (x : Vec F S256x8192 .bf16) (g : Fin 64) : FVec F S256 .f32 :=
  multiReduction .maximumf [1] S256 (absf (part x g)) 0xFF800000#32 reduces_S256x128_S256 (.inl rfl) rfl

/-- The largest magnitudes of the first `k` groups, each in its lane; the other lanes are 0. -/
def lanes (x : Vec F S256x8192 .bf16) : ℕ → FVec F S256x64 .f32
  | 0 => broadcast S256x64 (Scalar.ofBits .f32 0x00000000#32)
  | k + 1 => select (cmpi .eq (iota .tc S256x64 32 [1] iota_S256x64_d1_w32) (broadcast S256x64 (BitVec.ofNat 32 k)))
      (broadcastTo S256x64 (shapeCast S256x1 (shapeCast S256x1 (rowMax x (Fin.ofNat 64 k)) shapeCasts_S256_S256x1)
        shapeCasts_S256x1_S256x1) broadcasts_S256x1_S256x64)
      (lanes x k)

/-- The first `k` groups' codes under the inverse scales `i`, each stored in its columns, last first. -/
def tiles (x : Vec F S256x8192 .bf16) (i : FVec F S256x64 .f32) : ℕ → List (View.Piece (Elt F) S256x8192 .fp8e4m3)
  | 0 => []
  | k + 1 => ⟨group (Fin.ofNat 64 k), code (part x (Fin.ofNat 64 k))
      (broadcastTo S256x128 (extractStridedSlice S256x1 ![0, (Fin.ofNat 64 k).val] i (lane_slices (Fin.ofNat 64 k)))
        broadcasts_S256x1_S256x128)⟩ :: tiles x i k

/-- The kernel's exponents are those of the gathered magnitudes. -/
theorem exponents_eq (x : Vec F S256x8192 .bf16) : k0_pay133 x = expo (lanes x 64) := by
  sl_kernel_rfl

/-- The kernel's scales are the powers of those exponents. -/
theorem scales_eq (e : IVec S256x64 32) : k0_pay53 (F := F) e = pow2 e := by
  sl_kernel_rfl

/-- The kernel's code block is the tiles under the opposite powers. -/
theorem codes_eq (x : Vec F S256x8192 .bf16) :
    out0_1 x = View.canon (tiles x (pow2 (subi (broadcast S256x64 0#32) (expo (lanes x 64)))) 64) := by
  sl_kernel_rfl

section Words

/-- A row's largest magnitude in group `g` is that of its `128` elements. -/
theorem rowMax_apply (x : Vec Bits S256x8192 .bf16) (g : Fin 64) (r : Fin 256) :
    rowMax x g (ix1 r) = amax fun d => x (ix2 r ⟨g.val * 128 + d.val, by omega⟩) := by
  refine (multiReduction_maximumf_eq_fold _ _ _ _ _ _).trans ?_
  rw [Shape.Reduces.fold_filter_drop_single]
  unfold amax
  refine congrArg (Finset.fold _ _ · _) ?_
  funext d
  refine congrArg (fun v => FloatOps.absf (FloatOps.extf (F := Bits) (φ := .bf16) (ψ := .f32) (by decide) v)) ?_
  refine (congrFun (shapeCast_self _ _) _).trans ?_
  refine congrArg x ?_
  funext a
  apply Fin.ext
  match a with
  | ⟨0, _⟩ => show 0 + 1 * r.val = r.val; omega
  | ⟨1, _⟩ => show g.val * 128 + 1 * d.val = g.val * 128 + d.val; omega

/-- Once its group is in, a lane holds the group's largest magnitude. -/
theorem lanes_apply (x : Vec Bits S256x8192 .bf16) (r : Fin 256) (g : Fin 64) (k : ℕ) (hk : k ≤ 64) (h : g.val < k) :
    lanes x k (ix2 r g) = rowMax x g (ix1 r) := by
  induction k with
  | zero => omega
  | succ k ih =>
    have hc : cmpi .eq (iota .tc S256x64 32 [1] iota_S256x64_d1_w32) (broadcast S256x64 (BitVec.ofNat 32 k)) (ix2 r g)
        = if g.val = k then 1#1 else 0#1 := by
      rw [cmpi_apply, iota_single_apply, ix2_1]
      show BitVec.ofBool (BitVec.ofNat 32 g.val == BitVec.ofNat 32 k) = _
      split
      · next e => rw [e, beq_self_eq_true]; rfl
      · next e =>
        refine congrArg BitVec.ofBool (beq_eq_false_iff_ne.mpr fun q => e ?_)
        have q := congrArg BitVec.toNat q
        simp only [BitVec.toNat_ofNat] at q
        omega
    rw [lanes]
    show Scalar.select (cmpi .eq (iota .tc S256x64 32 [1] iota_S256x64_d1_w32) (broadcast S256x64 (BitVec.ofNat 32 k)) (ix2 r g))
      _ (lanes x k (ix2 r g)) = _
    rw [hc]
    by_cases e : g.val = k
    · rw [if_pos e]
      have hg : Fin.ofNat 64 k = g := Fin.ext (show k % 64 = g.val by omega)
      refine Eq.trans (show _ = broadcastTo S256x64 _ broadcasts_S256x1_S256x64 (ix2 r g) from if_pos rfl) ?_
      refine (broadcastTo_apply _ _ _ (ix2 r 0) fun a => ?_).trans ?_
      · match a with
        | ⟨0, _⟩ => rfl
        | ⟨1, _⟩ => rfl
      refine (congrFun (shapeCast_self _ _) _).trans ?_
      rw [hg]
      refine shapeCast_apply _ _ _ _ ?_
      rw [rowMajor_val1, rowMajor_val2 _ 1 rfl]
      show r.val = r.val * 1 + 0
      omega
    · rw [if_neg e]
      exact ih (by omega) (by omega)

/-- Once its group is in, an element of the code block is the code of its element under its group's inverse scale. -/
theorem tiles_apply (x : Vec Bits S256x8192 .bf16) (i : FVec Bits S256x64 .f32) (y : S256x8192.Idx) (k : ℕ) (hk : k ≤ 64)
    (h : (y 1).val < k * 128) :
    View.canon (tiles x i k) y
      = code (extf .f32 x bitsLt_bf16_f32) (fun j => i (ix2 (j 0) ⟨(j 1).val / 128, Nat.div_lt_of_lt_mul (j 1).isLt⟩)) y := by
  induction k with
  | zero => omega
  | succ k ih =>
    rw [tiles]
    by_cases hy : k * 128 ≤ (y 1).val
    · have hg : (Fin.ofNat 64 k).val = k := Nat.mod_eq_of_lt hk
      let z : S256x128.Idx := ix2 (y 0) ⟨(y 1).val - k * 128, by omega⟩
      have hz : (group (Fin.ofNat 64 k)).emb z = y := by
        funext a
        apply Fin.ext
        rw [Rect.emb_apply]
        match a with
        | ⟨0, _⟩ => show 0 + 1 * (y 0).val = (y 0).val; omega
        | ⟨1, _⟩ => show (Fin.ofNat 64 k).val * 128 + 1 * ((y 1).val - k * 128) = (y 1).val; omega
      conv_lhs => rw [← hz]
      rw [View.canon_cons_emb (group (Fin.ofNat 64 k)) _ _ z]
      refine code_apply _ _ _ _ _ _ ?_ ?_
      · refine congrArg (FloatOps.extf (F := Bits) (φ := .bf16) (ψ := .f32) (by decide)) ?_
        refine (congrFun (shapeCast_self _ _) _).trans ?_
        exact congrArg x hz
      · refine congrArg i ?_
        funext a
        apply Fin.ext
        match a with
        | ⟨0, _⟩ => show 0 + (y 0).val = (y 0).val; omega
        | ⟨1, _⟩ => show (Fin.ofNat 64 k).val + 0 = (y 1).val / 128; omega
    · refine (View.canon_cons_of_not_mem _ _ ?_).trans (ih (by omega) (by omega))
      intro hm
      obtain ⟨z, rfl⟩ := (group (Fin.ofNat 64 k)).exists_idx_of_mem hm
      have hg : (Fin.ofNat 64 k).val = k := Nat.mod_eq_of_lt hk
      apply hy
      show k * 128 ≤ (Fin.ofNat 64 k).val * 128 + 1 * (z 1).val
      omega

end Words

end Cert.Quant.Run

end
-- ==== Proof.QuantFinal.lean ====
/- The quantiser's two result arrays after a run, as functions of its argument (`final1`, `final2`). -/
module

public import proofs.«01_k».proof.Proof.QuantRun

@[expose] public section

set_option maxRecDepth 16384

noncomputable section

namespace Cert.Quant.Run

open Cert.Quant Cert.Quant.Gen Cert.QuantMath Idealize.ShloMosaic Idealize.ShloMosaic.TcCoe Idealize.SL.Sem
open Idealize.ShloMosaic.Pipeline (Dat)

/-- Every window's block index at every grid point. -/
theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Bits) ℓ)

/-- A block row at point `t` is row `256 t + r` of the array. -/
theorem row_lt (t : Fin cfg0.N) (r : Fin 256) : t.val * 256 + r.val < 3072 := by
  have : t.val < 12 := t.isLt
  omega

/-- Point `t`'s input block holds rows `256 t … 256 t + 255` of the tokens. -/
theorem block (c : Dev nD) (t : Fin cfg0.N) (r : Fin 256) (q : Fin 8192) :
    iblk m c 0 t (ix2 r q) = V m c main_v0 (ix2 ⟨t.val * 256 + r.val, row_lt t r⟩ q) := by
  blk_point [iblk, V, idx t]

/-- The gathered magnitudes of point `t` are the array's, at its rows. -/
theorem lanes_block (c : Dev nD) (t : Fin cfg0.N) (r : Fin 256) (g : Fin 64) :
    lanes (iblk m c 0 t) 64 (ix2 r g) = amaxes (V m c main_v0) (ix2 ⟨t.val * 256 + r.val, row_lt t r⟩ g) := by
  rw [lanes_apply _ r g 64 (le_refl _) g.isLt, rowMax_apply]
  unfold amaxes
  refine congrArg amax ?_
  funext d
  exact block m c t r _

/-- So are its exponents. -/
theorem expo_block (c : Dev nD) (t : Fin cfg0.N) (r : Fin 256) (g : Fin 64) :
    expo (lanes (iblk m c 0 t) 64) (ix2 r g) = expo (amaxes (V m c main_v0)) (ix2 ⟨t.val * 256 + r.val, row_lt t r⟩ g) :=
  expo_apply _ _ _ _ (lanes_block m c t r g)

/-- Point `t`'s code block is the codes of its rows. -/
theorem codes_block (c : Dev nD) (t : Fin cfg0.N) (r : Fin 256) (q : Fin 8192) :
    out0_1 (iblk m c 0 t) (ix2 r q) = codes (V m c main_v0) (ix2 ⟨t.val * 256 + r.val, row_lt t r⟩ q) := by
  rw [codes_eq, tiles_apply _ _ _ 64 (le_refl _) q.isLt]
  refine code_apply _ _ _ _ _ _ ?_ ?_
  · exact congrArg (FloatOps.extf (F := Bits) (φ := .bf16) (ψ := .f32) (by decide)) (block m c t r q)
  · exact pow2_apply _ _ _ _ (congrArg (IntOp.subi 0#32) (expo_block m c t r ⟨q.val / 128, Nat.div_lt_of_lt_mul q.isLt⟩))

/-- Point `t`'s scale block is the scales of its rows. -/
theorem scales_block (c : Dev nD) (t : Fin cfg0.N) (r : Fin 256) (g : Fin 64) :
    out0_2 (iblk m c 0 t) (ix2 r g) = scales (V m c main_v0) (ix2 ⟨t.val * 256 + r.val, row_lt t r⟩ g) := by
  rw [out0_2, View.canon_unit_zero (by decide), scales_eq, exponents_eq]
  exact pow2_apply _ _ _ _ (expo_block m c t r g)

/-- The code array after the run. -/
theorem final1 (c : Dev nD) : (dats m 0 c).arrAt 1 (cfgs 0).N = codes (V m c main_v0) := by
  refine (dats m 0 c).arrAt_eq_of_covers 1 _ (by decide +kernel) fun t _ y => ?_
  blk_simp
  rw [after0_1]
  refine (congrArg _ (ix2_eta y).symm).trans ((codes_block m c t (y 0) (y 1)).trans ?_)
  blk_ext [idx t]

/-- The scale array after the run. -/
theorem final2 (c : Dev nD) : (dats m 0 c).arrAt 2 (cfgs 0).N = scales (V m c main_v0) := by
  refine (dats m 0 c).arrAt_eq_of_covers 2 _ (by decide +kernel) fun t _ y => ?_
  blk_simp
  rw [after0_2]
  refine (congrArg _ (ix2_eta y).symm).trans ((scales_block m c t (y 0) (y 1)).trans ?_)
  blk_ext [idx t]

end Cert.Quant.Run

end
-- ==== Proof.QuantReferenceFinal.lean ====
/- The quantiser's reference: its two result arrays after a run are the same functions of its argument (`final1`,
   `final2`). -/
module

public import proofs.«01_k».proof.Proof.QuantMath
public import Idealize.ShloMosaic.Lib.PointwiseCore

@[expose] public section

set_option maxRecDepth 16384

noncomputable section

namespace Cert.QuantReference.Run

open Cert.QuantReference Cert.QuantReference.Gen Cert.QuantMath Idealize.ShloMosaic Idealize.ShloMosaic.TcCoe Idealize.SL.Sem
open Idealize.ShloMosaic.Pipeline (Dat)

section Run
variable {F : FTy → Type} [BitOps F]

/-- The scale array is the powers of the groups' exponents. -/
theorem scales_eq (x : Vec F S3072x8192 .bf16) : out0_2 x = View.canon [⟨r0_1, pow2 (expo (k0_pay3 (View.ld x r0_0)))⟩] := by
  sl_kernel_rfl

/-- The code array is the groups' codes under the opposite powers, laid out by columns again. -/
theorem codes_eq (x : Vec F S3072x8192 .bf16) : out0_1 x = View.canon [⟨r0_0, shapeCast S3072x8192
    (code (k0_pay2 (View.ld x r0_0)) (broadcastTo S3072x64x128 (shapeCast S3072x64x1
      (pow2 (subi (broadcast S3072x64 0#32) (expo (k0_pay3 (View.ld x r0_0))))) shapeCasts_S3072x64_S3072x64x1)
      broadcasts_S3072x64x1_S3072x64x128)) shapeCasts_S3072x64x128_S3072x8192⟩] := by
  sl_kernel_rfl

end Run

/-- Element `d` of group `g`, in 32-bit floats. -/
theorem part_apply (x : Vec Bits S3072x8192 .bf16) (r : Fin 3072) (g : Fin 64) (d : Fin 128) :
    k0_pay2 x (ix3 r g d) = FloatOps.extf (F := Bits) (φ := .bf16) (ψ := .f32) (by decide)
      (x (ix2 r ⟨g.val * 128 + d.val, by omega⟩)) := by
  unfold k0_pay2
  refine (shapeCast_apply _ _ _ (ix2 r ⟨g.val * 128 + d.val, by omega⟩) ?_).trans ?_
  · rw [rowMajor_val2 _ 8192 rfl, rowMajor_val3 _ 8192 128 rfl rfl]
    show r.val * 8192 + (g.val * 128 + d.val) = r.val * 8192 + g.val * 128 + d.val
    omega
  · exact congrArg (FloatOps.extf (F := Bits) (φ := .bf16) (ψ := .f32) (by decide)) (congrFun (shapeCast_self _ _) _)

/-- Each group's largest magnitude. -/
theorem max_apply (x : Vec Bits S3072x8192 .bf16) (r : Fin 3072) (g : Fin 64) : k0_pay3 x (ix2 r g) = amaxes x (ix2 r g) := by
  unfold k0_pay3
  refine (multiReduction_maximumf_eq_fold _ _ _ _ _ _).trans ?_
  rw [Shape.Reduces.fold_filter_drop_single]
  unfold amaxes amax
  refine congrArg (Finset.fold _ _ · _) ?_
  funext d
  refine (congrArg (fun v => FloatOps.absf (k0_pay2 x v)) ?_).trans (congrArg FloatOps.absf (part_apply x r g d))
  funext a
  apply Fin.ext
  match a with
  | ⟨0, _⟩ => rfl
  | ⟨1, _⟩ => rfl
  | ⟨2, _⟩ => rfl

/-- So all of them. -/
theorem max_eq (x : Vec Bits S3072x8192 .bf16) : k0_pay3 x = amaxes x := by
  funext j
  rw [← ix2_eta j]
  exact max_apply x _ _

/-- The codes laid out by columns are the codes of the whole array. -/
theorem codes_apply (x : Vec Bits S3072x8192 .bf16) (r : Fin 3072) (q : Fin 8192) :
    shapeCast S3072x8192 (code (k0_pay2 x) (broadcastTo S3072x64x128 (shapeCast S3072x64x1
      (pow2 (subi (broadcast S3072x64 0#32) (expo (amaxes x)))) shapeCasts_S3072x64_S3072x64x1)
      broadcasts_S3072x64x1_S3072x64x128)) shapeCasts_S3072x64x128_S3072x8192 (ix2 r q) = codes x (ix2 r q) := by
  have hq : q.val / 128 * 128 + q.val % 128 = q.val := by omega
  refine (shapeCast_apply _ _ _ (ix3 r ⟨q.val / 128, Nat.div_lt_of_lt_mul q.isLt⟩
    ⟨q.val % 128, Nat.mod_lt _ (by decide)⟩) ?_).trans ?_
  · rw [rowMajor_val2 _ 8192 rfl, rowMajor_val3 _ 8192 128 rfl rfl]
    show r.val * 8192 + q.val / 128 * 128 + q.val % 128 = r.val * 8192 + q.val
    omega
  refine code_apply _ _ _ _ _ _ ?_ ?_
  · refine (part_apply _ _ _ _).trans (congrArg _ (congrArg x ?_))
    exact congrArg (ix2 r) (Fin.ext hq)
  · refine (broadcastTo_apply _ _ _ (ix3 r ⟨q.val / 128, Nat.div_lt_of_lt_mul q.isLt⟩ 0) fun a => ?_).trans ?_
    · match a with
      | ⟨0, _⟩ => rfl
      | ⟨1, _⟩ => rfl
      | ⟨2, _⟩ => rfl
    refine shapeCast_apply _ _ _ (ix2 r ⟨q.val / 128, Nat.div_lt_of_lt_mul q.isLt⟩) ?_
    rw [rowMajor_val2 _ 64 rfl]
    refine Eq.trans ?_ (rowMajor_val3 (d := ![3072, 64, 1]) _ 64 1 rfl rfl).symm
    show r.val * 64 + q.val / 128 = r.val * 64 + q.val / 128 * 1 + 0
    omega

/-- So the code array is the codes. -/
theorem out_codes (x : Vec Bits S3072x8192 .bf16) : out0_1 x = codes (View.ld x r0_0) := by
  rw [codes_eq, View.canon_unit_zero (by decide), max_eq]
  funext j
  rw [← ix2_eta j]
  exact codes_apply _ _ _

/-- And the scale array is the scales. -/
theorem out_scales (x : Vec Bits S3072x8192 .bf16) : out0_2 x = scales (View.ld x r0_0) := by
  rw [scales_eq, View.canon_unit_zero (by decide), max_eq]
  rfl

variable (m : (ℓ : Loc nD τ sig) → Buf (Elt Bits) ℓ)

/-- Every window's block is its whole array. -/
theorem idx : ∀ t : Fin cfg0.N, win0_0.index t = ![0, 0] ∧ win0_1.index t = ![0, 0] ∧ win0_2.index t = ![0, 0] :=
  (by decide +kernel : ∀ t : Fin grid0.N, _)

/-- The input block holds the whole array. -/
theorem block (c : Dev nD) (t : Fin cfg0.N) : View.ld (iblk m c 0 t) r0_0 = V m c main_v0 := by
  have h : (![0, 0] : Fin S3072x8192.rank → ℕ) = fun _ => 0 := by decide
  refine (View.ld_unit_zero h _ _).trans ?_
  funext j
  rw [← ix2_eta j]
  blk_point [iblk, V, idx t]

/-- The code array after the run. -/
theorem final1 (c : Dev nD) : (dats m 0 c).arrAt 1 (cfgs 0).N = codes (V m c main_v0) := by
  refine (dats m 0 c).arrAt_eq_of_after_last 1 t0_0 (by decide +kernel) _ fun j => ?_
  blk_simp
  rw [after0_1, out_codes, block]
  blk_ext [idx t0_0]

/-- The scale array after the run. -/
theorem final2 (c : Dev nD) : (dats m 0 c).arrAt 2 (cfgs 0).N = scales (V m c main_v0) := by
  refine (dats m 0 c).arrAt_eq_of_after_last 2 t0_0 (by decide +kernel) _ fun j => ?_
  blk_simp
  rw [after0_2, out_scales, block]
  blk_ext [idx t0_0]

end Cert.QuantReference.Run

end
-- ==== Proof.QuantClaim.lean ====
/- The claim about the quantiser: bit for bit, from equal arguments, the kernel and its reference end with the same codes
   and the same scales. Both are `Cert.QuantMath.codes` and `Cert.QuantMath.scales` of the argument. -/
module

public import proofs.«01_k».proof.Defs
public import proofs.«01_k».proof.Proof.QuantFinal
public import proofs.«01_k».proof.Proof.QuantReferenceFinal
public import Idealize.ShloMosaic.Lib.Claim

@[expose] public section

set_option maxRecDepth 16384

noncomputable section

namespace Cert.Proof

open Idealize.ShloMosaic Idealize.SL.Sem

/-- From equal arguments the kernel and the reference find the same rows of tokens. -/
theorem tokens_eq (m : (ℓ : Loc Cert.Quant.nD Cert.Quant.τ Cert.Quant.sig) → Buf (Elt Bits) ℓ)
    (m' : (ℓ : Loc Cert.QuantReference.nD Cert.QuantReference.τ Cert.QuantReference.sig) → Buf (Elt Bits) ℓ)
    (c : Dev Cert.Quant.nD)
    (h : m' ((c.tc : Thread Cert.QuantReference.nD Cert.QuantReference.τ).loc Cert.QuantReference.main_arg0)
      = m ((c.tc : Thread Cert.Quant.nD Cert.Quant.τ).loc Cert.Quant.main_arg0)) :
    Cert.QuantReference.Gen.V m' c Cert.QuantReference.main_v0 = Cert.Quant.Gen.V m c Cert.Quant.main_v0 := by
  entry_read
  rw [h]
  rfl

/-- The quantiser's and the reference's results agree bit for bit. -/
theorem bitexact_quant : Cert.bitexact_Quant_QuantReference := by
  pair_intro
  · run_from Cert.Quant.Gen.run_main m g
  · run_from Cert.QuantReference.Gen.run_main m' g'
    · rw [Cert.QuantReference.Run.final1 m' c, tokens_eq m m' c (hagree c)]
      exact (Cert.Quant.Run.final1 m c).symm
    · rw [Cert.QuantReference.Run.final2 m' c, tokens_eq m m' c (hagree c)]
      exact (Cert.Quant.Run.final2 m c).symm

end Cert.Proof

end
-- ==== Proof.GmmStores.lean ====
/- The grouped product's accumulator: the scratch array after a zeroing store and the `256` stores that each add one
   group's scaled products to one band of `128` rows.

   `stores p t v k` is the list of the first `k` such stores (last first). Step `k` works on group `k / 4` and on band
   `k % 4`: it loads the band back, adds the band of the group's product matrix `p (k / 4)` times the row of scales
   `t k`, and stores the band. Over the extended reals, `canon_stores` says what the array then holds: at each entry the
   sum, over the groups already added to the entry's band, of product times scale. -/
module

public import proofs.«01_k».proof.Proof.Gen.GmmIdeal.Value
public import Idealize.ShloMosaic.Lib.Pointwise
public import Idealize.ShloMosaic.Lib.Pipeline.ValueKit

@[expose] public section

set_option maxRecDepth 16384

noncomputable section

namespace Cert.GmmIdeal.Acc

open Cert.GmmIdeal Cert.GmmIdeal.Gen Idealize.ShloMosaic Idealize.ShloMosaic.TcCoe Idealize.SL.Sem

section Stores
variable {F : FTy → Type} [FloatOps F]

/-- Band `k % 4` of the accumulator lies inside it. -/
theorem band_inb (k : ℕ) : ∀ a, (![k % 4 * 128, 0] : Fin 2 → ℕ) a + S128x512.size a ≤ S512x512.size a := by
  have := Nat.mod_lt k (show 4 > 0 by decide)
  intro a
  match a with
  | ⟨0, _⟩ => show k % 4 * 128 + 128 ≤ 512; omega
  | ⟨1, _⟩ => show 0 + 512 ≤ 512; omega

/-- The band is a slice of a whole product matrix. -/
theorem band_slices (k : ℕ) : S512x512.Slices ![k % 4 * 128, 0] S128x512 := ⟨rfl, band_inb k⟩

/-- Rows `128 (k % 4) … 128 (k % 4) + 127` of the accumulator. -/
abbrev band (k : ℕ) : Rect S512x512 := Rect.unit (s := S512x512) ![k % 4 * 128, 0] S128x512.size (band_inb k)

/-- The zeroing store followed by the first `k` updates, last first: update `k` adds, to band `k % 4`, that band of group
    `k / 4`'s products `p (k / 4)` times the scales `t k`. -/
def stores (p : ℕ → FVec F S512x512 .f32) (t : ℕ → FVec F S1x512 .f32) (v : View sig .tc .vmem S512x512 .f32) :
    ℕ → List (View.Piece (Elt F) S512x512 .f32)
  | 0 => [⟨Rect.unit (s := S512x512) ![0, 0] S512x512.size inb_S512x512_S512x512_0_0, k0_pay4⟩]
  | k + 1 => ⟨band k, shapeCast S128x512 (addf (v.readCov (stores p t v k) (band k).toLoadRect)
      (mulf (extractStridedSlice S128x512 ![k % 4 * 128, 0] (p (k / 4)) (band_slices k))
        (broadcastTo S128x512 (t k) broadcasts_S1x512_S128x512))) shapeCasts_S128x512_S128x512⟩ :: stores p t v k

end Stores

variable (p : ℕ → FVec Ideal S512x512 .f32) (t : ℕ → FVec Ideal S1x512 .f32) (v : View sig .tc .vmem S512x512 .f32)

/-- The zeroing store leaves zeros. -/
theorem canon_stores_zero (y : S512x512.Idx) : View.canon (stores p t v 0) y = (0 : EReal) := by
  have h : (![0, 0] : Fin S512x512.rank → ℕ) = fun _ => 0 := by decide
  rw [stores, View.canon_unit_zero h]
  pointwise [k0_pay4]

/-- One update changes its own band only, adding the products times the scales there. -/
theorem canon_stores_succ (k : ℕ) (y : S512x512.Idx) :
    View.canon (stores p t v (k + 1)) y
      = if (y 0).val / 128 = k % 4 then
          (View.canon (stores p t v k) y + p (k / 4) y * t k (ix2 0 (y 1)) : EReal)
        else View.canon (stores p t v k) y := by
  have hk := Nat.mod_lt k (show 4 > 0 by decide)
  rw [stores]
  split
  · next h =>
    have hy0 : (y 0).val < 512 := (y 0).isLt
    let x : S128x512.Idx := ix2 ⟨(y 0).val - k % 4 * 128, by omega⟩ (y 1)
    have hy : (band k).emb x = y := by
      funext a
      apply Fin.ext
      rw [Rect.emb_apply]
      match a with
      | ⟨0, _⟩ => show k % 4 * 128 + 1 * ((y 0).val - k % 4 * 128) = (y 0).val; omega
      | ⟨1, _⟩ => show 0 + 1 * (y 1).val = (y 1).val; omega
    conv_lhs => rw [← hy]
    rw [View.canon_cons_emb (band k) _ _ x, View.readCov_eq_canon']
    refine (congrFun (shapeCast_self _ _) x).trans ?_
    have h1 : (band k).toLoadRect.idx x = y := hy
    show (View.canon (stores p t v k) ((band k).toLoadRect.idx x)
      + extractStridedSlice S128x512 ![k % 4 * 128, 0] (p (k / 4)) (band_slices k) x
        * broadcastTo S128x512 (t k) broadcasts_S1x512_S128x512 x : EReal) = _
    rw [h1]
    congr 2
    · refine congrArg (p (k / 4)) ?_
      funext a
      apply Fin.ext
      match a with
      | ⟨0, _⟩ => show k % 4 * 128 + ((y 0).val - k % 4 * 128) = (y 0).val; omega
      | ⟨1, _⟩ => show 0 + (y 1).val = (y 1).val; omega
    · refine congrArg (t k) ?_
      funext a
      match a with
      | ⟨0, _⟩ => rfl
      | ⟨1, _⟩ => rfl
  · next h =>
    refine View.canon_cons_of_not_mem _ _ ?_
    intro hm
    obtain ⟨x, rfl⟩ := (band k).exists_idx_of_mem hm
    apply h
    have hx : (x 0).val < 128 := (x 0).isLt
    show (k % 4 * 128 + 1 * (x 0).val) / 128 = k % 4
    omega

/-- After `k` updates an entry of band `b` holds the sum over the groups that have reached its band. -/
theorem canon_stores (k : ℕ) (y : S512x512.Idx) :
    View.canon (stores p t v k) y
      = (∑ g ∈ Finset.range ((k + 3 - (y 0).val / 128) / 4), p g y * t (4 * g + (y 0).val / 128) (ix2 0 (y 1)) : EReal) := by
  have hy0 : (y 0).val < 512 := (y 0).isLt
  induction k with
  | zero =>
    rw [canon_stores_zero, show (0 + 3 - (y 0).val / 128) / 4 = 0 by omega, Finset.range_zero, Finset.sum_empty]
  | succ k ih =>
    rw [canon_stores_succ, ih]
    split
    · next h =>
      rw [show (k + 1 + 3 - (y 0).val / 128) / 4 = (k + 3 - (y 0).val / 128) / 4 + 1 by omega, Finset.sum_range_succ,
        show (k + 3 - (y 0).val / 128) / 4 = k / 4 by omega, show 4 * (k / 4) + (y 0).val / 128 = k by omega]
    · next h =>
      rw [show (k + 1 + 3 - (y 0).val / 128) / 4 = (k + 3 - (y 0).val / 128) / 4 by omega]

end Cert.GmmIdeal.Acc

end
-- ==== Proof.GmmRun.lean ====
/- What one run of the grouped product's kernel leaves in its output block, from its five blocks.

   The run's accumulator history is `stores` at the products and scales of the blocks (`run_eq`, an equation the kernel
   of Lean checks by unfolding), so over the extended reals the output block has a closed form (`out_apply`). -/
module

public import proofs.«01_k».proof.Proof.GmmStores
public import Idealize.ShloMosaic.Lib.WholeRead
public import Idealize.ShloMosaic.Lib.MatmulPlain

@[expose] public section

set_option maxRecDepth 16384

noncomputable section

namespace Cert.GmmIdeal.Acc

open Cert.GmmIdeal Cert.GmmIdeal.Gen Idealize.ShloMosaic Idealize.ShloMosaic.TcCoe Idealize.SL.Sem

/-- Columns `128 g … 128 g + 127` of a block of codes lie inside it. -/
theorem cols_inb (g : Fin 64) : ∀ a, (![0, g.val * 128] : Fin 2 → ℕ) a + S512x128.size a ≤ S512x8192.size a := by
  have := g.isLt
  intro a
  match a with
  | ⟨0, _⟩ => show 0 + 512 ≤ 512; omega
  | ⟨1, _⟩ => show g.val * 128 + 128 ≤ 8192; omega

/-- Columns `128 g … 128 g + 127` of a block of codes. -/
abbrev cols (g : Fin 64) : LoadRect S512x8192 := (Rect.unit (s := S512x8192) ![0, g.val * 128] S512x128.size (cols_inb g)).toLoadRect

/-- Row `g` of a block of activation scales lies inside it. -/
theorem srow_inb (g : Fin 64) : ∀ a, (![g.val, 0] : Fin 2 → ℕ) a + S1x512.size a ≤ S64x512.size a := by
  have := g.isLt
  intro a
  match a with
  | ⟨0, _⟩ => show g.val + 1 ≤ 64; omega
  | ⟨1, _⟩ => show 0 + 512 ≤ 512; omega

/-- Row `g` of a block of activation scales. -/
abbrev srow (g : Fin 64) : LoadRect S64x512 := (Rect.unit (s := S64x512) ![g.val, 0] S1x512.size (srow_inb g)).toLoadRect

/-- The one weight scale of band `b` and group `g` at grid point `i` lies inside the table. -/
theorem cell_inb (i : grid0.Coords) (b : Fin 4) (g : Fin 64) :
    ∀ a, (![k0_off1 i (BitVec.ofNat 32 b.val) 0, g.val] : Fin 2 → ℕ) a + S1x1.size a ≤ S28x64.size a := by
  have h := k0_off1_inb i b 0
  have := g.isLt
  intro a
  match a with
  | ⟨0, _⟩ => exact h
  | ⟨1, _⟩ => show g.val + 1 ≤ 64; omega

/-- The one weight scale of band `b` and group `g` at grid point `i`. -/
abbrev cell (i : grid0.Coords) (b : Fin 4) (g : Fin 64) : LoadRect S28x64 :=
  (Rect.unit (s := S28x64) ![k0_off1 i (BitVec.ofNat 32 b.val) 0, g.val] S1x1.size (cell_inb i b g)).toLoadRect

section Run
variable {F : FTy → Type} [FloatOps F]
variable (c : Dev nD) (i : grid0.Coords)
  (arg2 : Memref sig .tc .smem S28x64 .f32) (harg2 : arg2.IsWhole)
  (arg3 : Memref sig .tc .vmem S512x8192 .fp8e4m3) (harg3 : arg3.IsWhole)
  (arg4 : Memref sig .tc .vmem S512x8192 .fp8e4m3) (harg4 : arg4.IsWhole)
  (arg5 : Memref sig .tc .vmem S64x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S512x512 .f32) (harg8 : arg8.IsWhole)
  (x0 : Vec F S28x64 .f32) (x1 : Vec F S512x8192 .fp8e4m3) (x2 : Vec F S512x8192 .fp8e4m3) (x3 : Vec F S64x512 .f32)
  (x4 : Vec F S1x512 .f32)

/-- Group `g`'s product: weight codes' columns against activation codes' columns, weight rows by activation rows. -/
def prod (g : ℕ) : FVec F S512x512 .f32 :=
  matmul dot_S512x128_S512x128_S512x512_1_1_0_0_n_n none
    (View.readAt (Elt F) arg4.view (cols (Fin.ofNat 64 g)) (harg4.unread x2))
    (View.readAt (Elt F) arg3.view (cols (Fin.ofNat 64 g)) (harg3.unread x1))
    (constant S512x512 .f32 0x00000000#32)

/-- Step `k`'s scales: group `k / 4`'s row of activation scales times the weight scale of band `k % 4`. -/
def scale (k : ℕ) : FVec F S1x512 .f32 :=
  mulf (shapeCast S1x512 (View.readAt (Elt F) arg5.view (srow (Fin.ofNat 64 (k / 4))) (harg5.unread x3)) shapeCasts_S1x512_S1x512)
    (broadcast S1x512 (View.readAt (Elt F) arg2.view (cell i (Fin.ofNat 4 k) (Fin.ofNat 64 (k / 4))) (harg2.unread x0)
      (Shape.Idx.first (s := S1x1) (by decide))))

/-- The run's accumulator history is the zeroing store and `256` updates. -/
theorem history_eq :
    kernelRun0_A.sl.HS0_257 c i arg2 harg2 arg3 harg3 arg4 harg4 arg5 harg5 arg8 x0 x1 x2 x3
      = stores (prod arg3 harg3 arg4 harg4 x1 x2) (scale i arg2 harg2 arg5 harg5 x0 x3) arg8.view 256 := by
  sl_kernel_rfl

/-- The run's one store into its output block. -/
theorem run_eq :
    (kernelRun0_A c i arg2 harg2 arg3 harg3 arg4 harg4 arg5 harg5 arg6 harg6 arg7 harg7 arg8 harg8 x0 x1 x2 x3 x4).1
      = [⟨Rect.unit (s := S512x512) ![0, 0] S512x512.size inb_S512x512_S512x512_0_0,
          k0_pay3 (arg8.view.readCov (stores (prod arg3 harg3 arg4 harg4 x1 x2) (scale i arg2 harg2 arg5 harg5 x0 x3) arg8.view 256)
              (Rect.unit (s := S512x512) ![0, 0] S512x512.size inb_S512x512_S512x512_0_0).toLoadRect)
            (View.readAt (Elt F) arg6.view (Rect.unit (s := S1x512) ![0, 0] S1x512.size inb_S1x512_S1x512_0_0).toLoadRect
              (harg6.unread x4))⟩] := by
  sl_kernel_rfl

/-- A load of the whole accumulator reads its canonical contents. -/
theorem readCov_whole (v : View sig .tc .vmem S512x512 .f32) (L : List (View.Piece (Elt F) S512x512 .f32)) :
    v.readCov L (Rect.unit (s := S512x512) ![0, 0] S512x512.size inb_S512x512_S512x512_0_0).toLoadRect = View.canon L := by
  rw [View.readCov_eq_canon']
  funext j
  refine congrArg (View.canon L) ?_
  funext a
  apply Fin.ext
  match a with
  | ⟨0, _⟩ => show 0 + 1 * (j 0).val = (j 0).val; omega
  | ⟨1, _⟩ => show 0 + 1 * (j 1).val = (j 1).val; omega

/-- A load of the whole bias block reads it. -/
theorem readAt_whole (m : Memref sig .tc .vmem S1x512 .f32) (h : m.IsWhole) (x : Vec F S1x512 .f32) :
    View.readAt (Elt F) m.view (Rect.unit (s := S1x512) ![0, 0] S1x512.size inb_S1x512_S1x512_0_0).toLoadRect (h.unread x) = x := by
  funext j
  rw [Memref.IsWhole.readAt_unread]
  refine congrArg x ?_
  funext a
  apply Fin.ext
  match a with
  | ⟨0, _⟩ => show 0 + 1 * (j 0).val = (j 0).val; omega
  | ⟨1, _⟩ => show 0 + 1 * (j 1).val = (j 1).val; omega

/-- So the output block is the last payload. -/
theorem out_eq :
    out0_A_5 c i arg2 harg2 arg3 harg3 arg4 harg4 arg5 harg5 arg6 harg6 arg7 harg7 arg8 harg8 x0 x1 x2 x3 x4
      = k0_pay3 (View.canon (stores (prod arg3 harg3 arg4 harg4 x1 x2) (scale i arg2 harg2 arg5 harg5 x0 x3) arg8.view 256))
          x4 := by
  rw [out0_A_5, View.read_writes_junk_eq_canon, run_eq]
  refine (View.canon_unit_zero (by decide) _ _).trans ?_
  exact congrArg₂ k0_pay3 (readCov_whole _ _) (readAt_whole _ _ _)

end Run

variable (c : Dev nD) (i : grid0.Coords)
  (arg2 : Memref sig .tc .smem S28x64 .f32) (harg2 : arg2.IsWhole)
  (arg3 : Memref sig .tc .vmem S512x8192 .fp8e4m3) (harg3 : arg3.IsWhole)
  (arg4 : Memref sig .tc .vmem S512x8192 .fp8e4m3) (harg4 : arg4.IsWhole)
  (arg5 : Memref sig .tc .vmem S64x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S512x512 .f32) (harg8 : arg8.IsWhole)
  (x0 : Vec Ideal S28x64 .f32) (x1 : Vec Ideal S512x8192 .fp8e4m3) (x2 : Vec Ideal S512x8192 .fp8e4m3)
  (x3 : Vec Ideal S64x512 .f32) (x4 : Vec Ideal S1x512 .f32)

/-- A group's product at weight row `a` and activation row `r`: the dot product of the two rows' `128` codes. -/
theorem prod_apply (g : Fin 64) (a r : Fin 512) :
    prod arg3 harg3 arg4 harg4 x1 x2 g.val (ix2 a r)
      = (∑ d : Fin 128, x1 (ix2 r ⟨g.val * 128 + d.val, by omega⟩) * x2 (ix2 a ⟨g.val * 128 + d.val, by omega⟩) : EReal) := by
  have e : ∀ (m : Memref sig .tc .vmem S512x8192 .fp8e4m3) (h : m.IsWhole) (x : Vec Ideal S512x8192 .fp8e4m3) (q : Fin 512)
      (d : Fin 128), View.readAt (Elt Ideal) m.view (cols (Fin.ofNat 64 g.val)) (h.unread x) (ix2 q d)
        = x (ix2 q ⟨g.val * 128 + d.val, by omega⟩) := by
    intro m h x q d
    rw [Memref.IsWhole.readAt_unread]
    refine congrArg x ?_
    have hg : (Fin.ofNat 64 g.val).val = g.val := Nat.mod_eq_of_lt g.isLt
    funext z
    apply Fin.ext
    match z with
    | ⟨0, _⟩ => show 0 + 1 * q.val = q.val; omega
    | ⟨1, _⟩ => show (Fin.ofNat 64 g.val).val * 128 + 1 * d.val = g.val * 128 + d.val; omega
  refine (Ideal.matmul_transposedRhs_apply none _ _ _ a r).trans ?_
  have hz : constant (F := Ideal) S512x512 .f32 0x00000000#32 (ix2 a r) = (0 : EReal) := by pointwise
  exact (congrArg₂ (fun u w : EReal => u + w) hz (Finset.sum_congr rfl fun d _ =>
    (congrArg₂ (fun u w : EReal => u * w) (e arg4 harg4 x2 a d) (e arg3 harg3 x1 r d)).trans
      (mul_comm (G := EReal) _ _))).trans (zero_add _)

/-- A step's scale at activation row `r`: that row's activation scale times the band's weight scale. -/
theorem scale_apply (g : Fin 64) (b : Fin 4) (r : Fin 512) (hj : 4 * (i 1).val + b.val < 28) :
    scale i arg2 harg2 arg5 harg5 x0 x3 (4 * g.val + b.val) (ix2 0 r)
      = (x3 (ix2 g r) * x0 (ix2 ⟨4 * (i 1).val + b.val, hj⟩ g) : EReal) := by
  have hg : (Fin.ofNat 64 ((4 * g.val + b.val) / 4)) = g := Fin.ext (show (4 * g.val + b.val) / 4 % 64 = g.val by omega)
  have hb : (Fin.ofNat 4 (4 * g.val + b.val)) = b := Fin.ext (show (4 * g.val + b.val) % 4 = b.val by omega)
  have e1 : View.readAt (Elt Ideal) arg5.view (srow g) (harg5.unread x3) (ix2 0 r) = x3 (ix2 g r) := by
    rw [Memref.IsWhole.readAt_unread]
    refine congrArg x3 ?_
    funext z
    apply Fin.ext
    match z with
    | ⟨0, _⟩ => show g.val + 1 * 0 = g.val; omega
    | ⟨1, _⟩ => show 0 + 1 * r.val = r.val; omega
  have e0 : View.readAt (Elt Ideal) arg2.view (cell i b g) (harg2.unread x0) (Shape.Idx.first (s := S1x1) (by decide))
      = x0 (ix2 ⟨4 * (i 1).val + b.val, hj⟩ g) := by
    have ho : k0_off1 i (BitVec.ofNat 32 b.val) 0 = 4 * (i 1).val + b.val := congrFun (k0_off1_eq i b) 0
    rw [Memref.IsWhole.readAt_unread]
    refine congrArg x0 ?_
    funext z
    apply Fin.ext
    match z with
    | ⟨0, _⟩ => show k0_off1 i (BitVec.ofNat 32 b.val) 0 + 1 * 0 = 4 * (i 1).val + b.val; omega
    | ⟨1, _⟩ => show g.val + 1 * 0 = g.val; omega
  rw [scale, hg, hb]
  exact congrArg₂ (fun u w : EReal => u * w) ((congrFun (shapeCast_self _ _) _).trans e1) e0

/-- The output block of grid point `i` at activation row `r` and weight row `a`: the sum over the groups of the codes'
    dot product times both scales, plus the bias. -/
theorem out_apply (r a : Fin 512) (hj : 4 * (i 1).val + a.val / 128 < 28) :
    out0_A_5 c i arg2 harg2 arg3 harg3 arg4 harg4 arg5 harg5 arg6 harg6 arg7 harg7 arg8 harg8 x0 x1 x2 x3 x4 (ix2 r a)
      = ((∑ g : Fin 64, (∑ d : Fin 128, x1 (ix2 r ⟨g.val * 128 + d.val, by omega⟩) * x2 (ix2 a ⟨g.val * 128 + d.val, by omega⟩))
          * (x3 (ix2 g r) * x0 (ix2 ⟨4 * (i 1).val + a.val / 128, hj⟩ g))) + x4 (ix2 0 a) : EReal) := by
  rw [out_eq]
  have e : View.canon (stores (prod arg3 harg3 arg4 harg4 x1 x2) (scale i arg2 harg2 arg5 harg5 x0 x3) arg8.view 256) (ix2 a r)
      = (∑ g : Fin 64, (∑ d : Fin 128, x1 (ix2 r ⟨g.val * 128 + d.val, by omega⟩) * x2 (ix2 a ⟨g.val * 128 + d.val, by omega⟩))
          * (x3 (ix2 g r) * x0 (ix2 ⟨4 * (i 1).val + a.val / 128, hj⟩ g)) : EReal) := by
    rw [canon_stores, ix2_0, ix2_1, show (256 + 3 - a.val / 128) / 4 = 64 by omega, Finset.sum_range]
    refine Finset.sum_congr rfl fun g _ => ?_
    exact congrArg₂ (fun u w : EReal => u * w) (prod_apply _ _ _ _ _ _ g a r)
      (scale_apply i _ _ _ _ _ _ g ⟨a.val / 128, by omega⟩ r hj)
  rw [← e]
  pointwise [k0_pay3]

end Cert.GmmIdeal.Acc

end
-- ==== Proof.GmmFinal.lean ====
/- The grouped product's result array after a run, as one function of its arguments (`final`). -/
module

public import proofs.«01_k».proof.Proof.GmmRun

@[expose] public section

set_option maxRecDepth 16384

noncomputable section

namespace Cert.GmmIdeal.Acc

open Cert.GmmIdeal Cert.GmmIdeal.Gen Idealize.ShloMosaic Idealize.ShloMosaic.TcCoe Idealize.SL.Sem
open Idealize.ShloMosaic.Pipeline (Dat)

/-- The grouped product over the extended reals: at token `i 0` and output column `i 1`, the sum over the `64` groups of
    the dot product of the two rows' `128` codes times the token's activation scale and the column tile's weight scale,
    plus the column's bias. -/
def total (X : FVec Ideal S3072x8192 .fp8e4m3) (sx : FVec Ideal S3072x64 .f32) (W : FVec Ideal S3584x8192 .fp8e4m3)
    (sw : FVec Ideal S28x64 .f32) (B : FVec Ideal S3584 .f32) : FVec Ideal S3072x3584 .bf16 := fun i =>
  ((∑ g : Fin 64, (∑ d : Fin 128, X (ix2 (i 0) ⟨g.val * 128 + d.val, by omega⟩) * W (ix2 (i 1) ⟨g.val * 128 + d.val, by omega⟩))
    * (sx (ix2 (i 0) g) * sw (ix2 ⟨(i 1).val / 128, Nat.div_lt_of_lt_mul (i 1).isLt⟩ g))) + B (ix1 (i 1)) : EReal)

variable (m : (ℓ : Loc nD τ sig) → Buf (Elt Ideal) ℓ)

/-- Every window's block index at every grid point. -/
theorem idx : ∀ t : Fin cfg0.N, win0_0.index t = ![0, 0] ∧ win0_1.index t = ![(grid0.coords t 0).val, 0]
    ∧ win0_2.index t = ![(grid0.coords t 1).val, 0] ∧ win0_3.index t = ![0, (grid0.coords t 0).val]
    ∧ win0_4.index t = ![0, (grid0.coords t 1).val] ∧ win0_5.index t = ![(grid0.coords t 0).val, (grid0.coords t 1).val]
    ∧ (grid0.coords t 0).val < 6 ∧ (grid0.coords t 1).val < 7 :=
  (by decide +kernel : ∀ t : Fin grid0.N, _)

/-- What the body stores at block index `y` of point `t` is `total` at the array index where `y` sits. -/
theorem point (c : Dev nD) (t : Fin cfg0.N) (r a : Fin 512) :
    out0_A_5 c (grid0.coords t) (ms0_0 t) (hs0_0 t) (ms0_1 t) (hs0_1 t) (ms0_2 t) (hs0_2 t) (ms0_3 t) (hs0_3 t) (ms0_4 t)
        (hs0_4 t) (ms0_5 t) (hs0_5 t) scM0_0 (Memref.isWhole_whole _) (iblk m c 0 t) (iblk m c 1 t) (iblk m c 2 t) (iblk m c 3 t)
        (iblk m c 4 t) (ix2 r a)
      = total (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb (ix2 r a)) := by
  have hi := idx t
  rw [out_apply c (grid0.coords t) _ _ _ _ _ _ _ _ _ _ _ _ _ _ _ _ _ _ _ r a (by omega)]
  unfold total
  blk_point [iblk, V, idx t]

/-- The result array after the run. -/
theorem final (c : Dev nD) : (dats m 0 c).arrAt 5 (cfgs 0).N
    = total (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, outsAt0]
  exact (congrArg _ (ix2_eta y).symm).trans ((point m c t (y 0) (y 1)).trans (congrArg _ (congrArg _ (ix2_eta y))))

end Cert.GmmIdeal.Acc

end
-- ==== Proof.GmmReferenceFinal.lean ====
/- The grouped product's reference: its result array after a run is the same function of its arguments (`final`). -/
module

public import proofs.«01_k».proof.Proof.GmmFinal
public import proofs.«01_k».proof.Proof.Gen.GmmReferenceIdeal.Value

@[expose] public section

set_option maxRecDepth 16384

noncomputable section

namespace Cert.GmmReferenceIdeal.Acc

open Cert.GmmReferenceIdeal Cert.GmmReferenceIdeal.Gen Idealize.ShloMosaic Idealize.ShloMosaic.TcCoe Idealize.SL.Sem
open Idealize.ShloMosaic.Pipeline (Dat)

variable (m : (ℓ : Loc nD τ sig) → Buf (Elt Ideal) ℓ)

/-- Every window's block is its whole array. -/
theorem idx : ∀ t : Fin cfg0.N, win0_0.index t = ![0, 0, 0] ∧ win0_1.index t = ![0, 0, 0]
    ∧ win0_2.index t = ![0, 0, 0] ∧ win0_3.index t = ![0, 0, 0]
    ∧ win0_4.index t = ![0, 0] ∧ win0_5.index t = ![0, 0] :=
  (by decide +kernel : ∀ t : Fin grid0.N, _)

/-- The result array after the run. -/
theorem final (c : Dev nD) : (dats m 0 c).arrAt 5 (cfgs 0).N
    = Cert.GmmIdeal.Acc.total (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  unfold Cert.GmmIdeal.Acc.total
  pointwise [k0_pay1]
  blk_point [iblk, V, idx t0_0]

end Cert.GmmReferenceIdeal.Acc

end
-- ==== Proof.GmmClaim.lean ====
/- The claim about the grouped product: over the extended reals, from equal arguments, the kernel and its reference end
   with the same result. Both results are `Cert.GmmIdeal.Acc.total` of the arguments. -/
module

public import proofs.«01_k».proof.Defs
public import proofs.«01_k».proof.Proof.GmmFinal
public import proofs.«01_k».proof.Proof.GmmReferenceFinal
public import Idealize.ShloMosaic.Lib.Claim

@[expose] public section

set_option maxRecDepth 16384

noncomputable section

namespace Cert.Proof

open Idealize.ShloMosaic Idealize.SL.Sem

/-- The kernel's and the reference's results agree over the extended reals. -/
theorem algebraic_gmm : Cert.algebraic_GmmIdeal_GmmReferenceIdeal := by
  pair_intro
  · run_from Cert.GmmIdeal.Gen.run_main m g
  · run_from Cert.GmmReferenceIdeal.Gen.run_main m' g'
    obtain ⟨h0, h1, h2, h3, h4⟩ := hagree c
    rw [Cert.GmmReferenceIdeal.Acc.final m' c, h0, h1, h2, h3, h4]
    exact (Cert.GmmIdeal.Acc.final m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantReference
public import proofs.«01_k».proof.Proof.Gen.QuantReference.Skeleton
public import proofs.«01_k».proof.Proof.Gen.QuantReference.Launch
public import proofs.«01_k».proof.Proof.Gen.QuantReference.Points
public import proofs.«01_k».proof.Proof.Gen.QuantReference.Frame
public import proofs.«01_k».proof.Proof.Gen.Gmm
public import proofs.«01_k».proof.Proof.Gen.Gmm.Skeleton
public import proofs.«01_k».proof.Proof.Gen.Gmm.Launch
public import proofs.«01_k».proof.Proof.Gen.Gmm.Points
public import proofs.«01_k».proof.Proof.Gen.Gmm.Frame
public import proofs.«01_k».proof.Proof.Gen.GmmIdeal
public import proofs.«01_k».proof.Proof.Gen.GmmIdeal.Skeleton
public import proofs.«01_k».proof.Proof.Gen.GmmIdeal.Launch
public import proofs.«01_k».proof.Proof.Gen.GmmIdeal.Points
public import proofs.«01_k».proof.Proof.Gen.GmmIdeal.Frame
public import proofs.«01_k».proof.Proof.Gen.GmmReferenceIdeal
public import proofs.«01_k».proof.Proof.Gen.GmmReferenceIdeal.Skeleton
public import proofs.«01_k».proof.Proof.Gen.GmmReferenceIdeal.Launch
public import proofs.«01_k».proof.Proof.Gen.GmmReferenceIdeal.Points
public import proofs.«01_k».proof.Proof.Gen.GmmReferenceIdeal.Frame
public import proofs.«01_k».proof.Proof.Gen.Quant.Value
public import proofs.«01_k».proof.Proof.Gen.QuantReference.Value
public import proofs.«01_k».proof.Proof.Gen.GmmIdeal.Value
public import proofs.«01_k».proof.Proof.Gen.GmmReferenceIdeal.Value
public import proofs.«01_k».proof.Proof.QuantClaim
public import proofs.«01_k».proof.Proof.GmmClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.Quant.Gen.facts, Cert.QuantReference.Gen.facts, Cert.Gmm.Gen.facts, Cert.GmmIdeal.Gen.facts,
    Cert.GmmReferenceIdeal.Gen.facts,
    fun m ρ _ => Cert.Kernel.Gen.frame m ρ,
    fun m ρ _ => Cert.Quant.Gen.frame m ρ,
    fun m ρ _ => Cert.QuantReference.Gen.frame m ρ,
    fun m ρ _ => Cert.Gmm.Gen.frame m ρ,
    fun m ρ _ => Cert.GmmIdeal.Gen.frame m ρ,
    fun m ρ _ => Cert.GmmReferenceIdeal.Gen.frame m ρ,
    bitexact_quant, trivial, algebraic_gmm⟩

end Cert.Proof

end
